-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_padded [hPre_in_range_padded : Cert.Pre_in_range_padded.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_in_range_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_padded [hPre_in_range_padded : Cert.Pre_in_range_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_in_range_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range_padded [hKernelIdeal : Cert.KernelIdeal.Facts] [hPre_in_range_padded : Cert.Pre_in_range_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_padded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range_padded [hReferenceIdeal : Cert.ReferenceIdeal.Facts] [hPre_in_range_padded : Cert.Pre_in_range_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_padded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_in_range_padded [hKernelIdeal : Cert.KernelIdeal.Facts] [hReferenceIdeal : Cert.ReferenceIdeal.Facts] [hPre_in_range_padded : Cert.Pre_in_range_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_padded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range_padded : Cert.Pre_in_range_padded.Facts),
    quiescent_Kernel (hKernel := hKernel)
    ∧ quiescent_KernelIdeal (hKernelIdeal := hKernelIdeal)
    ∧ quiescent_KernelIdeal_pre_in_range_padded (hKernelIdeal := hKernelIdeal) (hPre_in_range_padded := hPre_in_range_padded)
    ∧ quiescent_ReferenceIdeal (hReferenceIdeal := hReferenceIdeal)
    ∧ quiescent_ReferenceIdeal_pre_in_range_padded (hReferenceIdeal := hReferenceIdeal) (hPre_in_range_padded := hPre_in_range_padded)
    ∧ preserves_Kernel_KernelIdeal
    ∧ algebraic_KernelIdeal_ReferenceIdeal_pre_in_range_padded (hKernelIdeal := hKernelIdeal) (hReferenceIdeal := hReferenceIdeal) (hPre_in_range_padded := hPre_in_range_padded)
-- ==== Pre_in_range_padded.lean ====
abbrev S16384 : Shape := ⟨1, ![16384]⟩
abbrev S100000x32 : Shape := ⟨2, ![100000, 32]⟩
abbrev S1000000x32 : Shape := ⟨2, ![1000000, 32]⟩
abbrev S128x128 : Shape := ⟨2, ![128, 128]⟩
abbrev S128 : Shape := ⟨1, ![128]⟩
abbrev S_ : Shape := ⟨0, ![]⟩
abbrev S1x32 : Shape := ⟨2, ![1, 32]⟩

class Facts : Prop where
  bcast_S_S16384 : S_.BroadcastsInDim S16384 (![] : Fin 0 → Fin S16384.rank)
  slices_S100000x32_S1x32_0_0 : S100000x32.Slices ![0, 0] S1x32
  bcast_S_S1x32 : S_.BroadcastsInDim S1x32 (![] : Fin 0 → Fin S1x32.rank)
  slices_S1000000x32_S1x32_0_0 : S1000000x32.Slices ![0, 0] S1x32

variable [Facts]

def fn_part2 {F : FTy → Type} [FloatOps F] (main_v22 : IVec S16384 1) (main_v33 : IVec S1x32 1) (main_v34 : FVec F S1x32 .f32) (main_v35 : FVec F S1x32 .f32) : IVec S16384 1 × IVec S1x32 1 :=
  let main_v36 : IVec S1x32 1 := cmpf .oeq main_v34 main_v35
  let main_v37 : IVec S1x32 1 := andi main_v33 main_v36
  (main_v22, main_v37)

def fn_part1 {F : FTy → Type} [FloatOps F] (main_arg3 : IVec S16384 32) (main_arg4 : FVec F S100000x32 .f32) (main_arg5 : FVec F S1000000x32 .f32) (main_arg6 : FVec F S100000x32 .f32) (main_arg7 : FVec F S1000000x32 .f32) (main_v16 : IVec S16384 1) (main_c_5 : IVec S_ 32) : IVec S16384 1 × IVec S1x32 1 :=
  let main_v17 : IVec S16384 32 := broadcastInDim S16384 ![] bcast_S_S16384 main_c_5
  let main_v18 : IVec S16384 1 := cmpi .sge main_arg3 main_v17
  let main_v19 : IVec S16384 1 := andi main_v16 main_v18
  let main_c_6 : IVec S_ 32 := constantI S_ 32 1000000#32
  let main_v20 : IVec S16384 32 := broadcastInDim S16384 ![] bcast_S_S16384 main_c_6
  let main_v21 : IVec S16384 1 := cmpi .slt main_arg3 main_v20
  let main_v22 : IVec S16384 1 := andi main_v19 main_v21
  let main_v23 : FVec F S1x32 .f32 := (extractStridedSlice S1x32 ![0, 0] · slices_S100000x32_S1x32_0_0) main_arg4
  let main_cst : FVec F S_ .f32 := constant S_ .f32 0x00000000#32
  let main_v24 : FVec F S1x32 .f32 := broadcastInDim S1x32 ![] bcast_S_S1x32 main_cst
  let main_v25 : IVec S1x32 1 := cmpf .oeq main_v23 main_v24
  let main_v26 : FVec F S1x32 .f32 := (extractStridedSlice S1x32 ![0, 0] · slices_S1000000x32_S1x32_0_0) main_arg5
  let main_cst_7 : FVec F S_ .f32 := constant S_ .f32 0x00000000#32
  let main_v27 : FVec F S1x32 .f32 := broadcastInDim S1x32 ![] bcast_S_S1x32 main_cst_7
  let main_v28 : IVec S1x32 1 := cmpf .oeq main_v26 main_v27
  let main_v29 : IVec S1x32 1 := andi main_v25 main_v28
  let main_v30 : FVec F S1x32 .f32 := (extractStridedSlice S1x32 ![0, 0] · slices_S100000x32_S1x32_0_0) main_arg6
  let main_cst_8 : FVec F S_ .f32 := constant S_ .f32 0x00000000#32
  let main_v31 : FVec F S1x32 .f32 := broadcastInDim S1x32 ![] bcast_S_S1x32 main_cst_8
  let main_v32 : IVec S1x32 1 := cmpf .oeq main_v30 main_v31
  let main_v33 : IVec S1x32 1 := andi main_v29 main_v32
  let main_v34 : FVec F S1x32 .f32 := (extractStridedSlice S1x32 ![0, 0] · slices_S1000000x32_S1x32_0_0) main_arg7
  let main_cst_9 : FVec F S_ .f32 := constant S_ .f32 0x00000000#32
  let main_v35 : FVec F S1x32 .f32 := broadcastInDim S1x32 ![] bcast_S_S1x32 main_cst_9
  fn_part2 (F := F) main_v22 main_v33 main_v34 main_v35

def fn {F : FTy → Type} [FloatOps F] (main_arg0 : IVec S16384 32) (main_arg1 : IVec S16384 32) (main_arg2 : IVec S16384 32) (main_arg3 : IVec S16384 32) (main_arg4 : FVec F S100000x32 .f32) (main_arg5 : FVec F S1000000x32 .f32) (main_arg6 : FVec F S100000x32 .f32) (main_arg7 : FVec F S1000000x32 .f32) (main_arg8 : FVec F S128x128 .f32) (main_arg9 : FVec F S128 .f32) (main_arg10 : FVec F S128 .f32) (main_arg11 : FVec F S128 .f32) : IVec S16384 1 × IVec S1x32 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 1000000#32
  let main_v8 : IVec S16384 32 := broadcastInDim S16384 ![] bcast_S_S16384 main_c_2
  let main_v9 : IVec S16384 1 := cmpi .slt main_arg1 main_v8
  let main_v10 : IVec S16384 1 := andi main_v7 main_v9
  let main_c_3 : IVec S_ 32 := constantI S_ 32 0#32
  let main_v11 : IVec S16384 32 := broadcastInDim S16384 ![] bcast_S_S16384 main_c_3
  let main_v12 : IVec S16384 1 := cmpi .sge main_arg2 main_v11
  let main_v13 : IVec S16384 1 := andi main_v10 main_v12
  let main_c_4 : IVec S_ 32 := constantI S_ 32 100000#32
  let main_v14 : IVec S16384 32 := broadcastInDim S16384 ![] bcast_S_S16384 main_c_4
  let main_v15 : IVec S16384 1 := cmpi .slt main_arg2 main_v14
  let main_v16 : IVec S16384 1 := andi main_v13 main_v15
  let main_c_5 : IVec S_ 32 := constantI S_ 32 0#32
  fn_part1 (F := F) main_arg3 main_arg4 main_arg5 main_arg6 main_arg7 main_v16 main_c_5
-- ==== Kernel.lean ====
abbrev S16384 : Shape := ⟨1, ![16384]⟩
abbrev S100000x32 : Shape := ⟨2, ![100000, 32]⟩
abbrev S1000000x32 : Shape := ⟨2, ![1000000, 32]⟩
abbrev S128x128 : Shape := ⟨2, ![128, 128]⟩
abbrev S128 : Shape := ⟨1, ![128]⟩
abbrev S32x100000 : Shape := ⟨2, ![32, 100000]⟩
abbrev S100000x128 : Shape := ⟨2, ![100000, 128]⟩
abbrev S32x512 : Shape := ⟨2, ![32, 512]⟩
abbrev S512x128 : Shape := ⟨2, ![512, 128]⟩
abbrev S32x32 : Shape := ⟨2, ![32, 32]⟩
abbrev S512x32 : Shape := ⟨2, ![512, 32]⟩
abbrev S512x96 : Shape := ⟨2, ![512, 96]⟩
abbrev S_ : Shape := ⟨0, ![]⟩
abbrev S16384x1 : Shape := ⟨2, ![16384, 1]⟩
abbrev S16384x128 : Shape := ⟨2, ![16384, 128]⟩
abbrev S32x1000000 : Shape := ⟨2, ![32, 1000000]⟩
abbrev S32x16384 : Shape := ⟨2, ![32, 16384]⟩
abbrev S1x128 : Shape := ⟨2, ![1, 128]⟩
abbrev S1024x128 : Shape := ⟨2, ![1024, 128]⟩
abbrev S32x1024 : Shape := ⟨2, ![32, 1024]⟩
abbrev S1024x32 : Shape := ⟨2, ![1024, 32]⟩
abbrev S128x32 : Shape := ⟨2, ![128, 32]⟩
abbrev S1024 : Shape := ⟨1, ![1024]⟩
abbrev S1024x1 : Shape := ⟨2, ![1024, 1]⟩

abbrev nBuf : Space → Nat
  | .hbm => 58
  | .vmem => 22
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S100000x32, .f32⟩
  | .hbm, ⟨5, _⟩ => ⟨S1000000x32, .f32⟩
  | .hbm, ⟨6, _⟩ => ⟨S100000x32, .f32⟩
  | .hbm, ⟨7, _⟩ => ⟨S1000000x32, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S32x100000, .f32⟩
  | .hbm, ⟨13, _⟩ => ⟨S100000x128, .f32⟩
  | .hbm, ⟨14, _⟩ => ⟨S32x100000, .f32⟩
  | .hbm, ⟨15, _⟩ => ⟨S100000x128, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384x128, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x128, .f32⟩
  | .hbm, ⟨34, _⟩ => ⟨S32x1000000, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S32x16384, .f32⟩
  | .hbm, ⟨44, _⟩ => ⟨S32x1000000, .f32⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S32x16384, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S16384x128, .f32⟩
  | .local _ .vmem, ⟨0, _⟩ => ⟨S32x512, .f32⟩
  | .local _ .vmem, ⟨1, _⟩ => ⟨S32x512, .f32⟩
  | .local _ .vmem, ⟨2, _⟩ => ⟨S512x128, .f32⟩
  | .local _ .vmem, ⟨3, _⟩ => ⟨S512x128, .f32⟩
  | .local _ .vmem, ⟨4, _⟩ => ⟨S32x512, .f32⟩
  | .local _ .vmem, ⟨5, _⟩ => ⟨S32x512, .f32⟩
  | .local _ .vmem, ⟨6, _⟩ => ⟨S512x128, .f32⟩
  | .local _ .vmem, ⟨7, _⟩ => ⟨S512x128, .f32⟩
  | .local _ .vmem, ⟨8, _⟩ => ⟨S1024x128, .f32⟩
  | .local _ .vmem, ⟨9, _⟩ => ⟨S1024x128, .f32⟩
  | .local _ .vmem, ⟨10, _⟩ => ⟨S32x1024, .f32⟩
  | .local _ .vmem, ⟨11, _⟩ => ⟨S32x1024, .f32⟩
  | .local _ .vmem, ⟨12, _⟩ => ⟨S1024x128, .f32⟩
  | .local _ .vmem, ⟨13, _⟩ => ⟨S1024x128, .f32⟩
  | .local _ .vmem, ⟨14, _⟩ => ⟨S32x1024, .f32⟩
  | .local _ .vmem, ⟨15, _⟩ => ⟨S32x1024, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1024x128, .f32⟩
  | .local _ .vmem, ⟨21, _⟩ => ⟨S1024x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem8_1 : DmaSem sig := 21

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S32x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ReferenceIdeal.lean ====
abbrev S16384 : Shape := ⟨1, ![16384]⟩
abbrev S100000x32 : Shape := ⟨2, ![100000, 32]⟩
abbrev S1000000x32 : Shape := ⟨2, ![1000000, 32]⟩
abbrev S128x128 : Shape := ⟨2, ![128, 128]⟩
abbrev S128 : Shape := ⟨1, ![128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x128 : Shape := ⟨2, ![16384, 128]⟩
abbrev S1x128 : Shape := ⟨2, ![1, 128]⟩

abbrev nBuf : Space → Nat
  | .hbm => 167
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S100000x32, .f32⟩
  | 5 => ⟨S1000000x32, .f32⟩
  | 6 => ⟨S100000x32, .f32⟩
  | 7 => ⟨S1000000x32, .f32⟩
  | 8 => ⟨S128x128, .f32⟩
  | 9 => ⟨S128, .f32⟩
  | 10 => ⟨S128, .f32⟩
  | 11 => ⟨S128, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S16384x32, .f32⟩
  | 31 => ⟨S16384x32, .i1⟩
  | 32 => ⟨S_, .f32⟩
  | 33 => ⟨S16384x32, .f32⟩
  | 34 => ⟨S16384x32, .f32⟩
  | 35 => ⟨S_, .i32⟩
  | 36 => ⟨S16384, .i32⟩
  | 37 => ⟨S16384, .i1⟩
  | 38 => ⟨S16384x1, .i1⟩
  | 39 => ⟨S16384x1, .f32⟩
  | 40 => ⟨S16384x32, .f32⟩
  | 41 => ⟨S16384x32, .f32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x32, .f32⟩
  | 61 => ⟨S16384x32, .i1⟩
  | 62 => ⟨S_, .f32⟩
  | 63 => ⟨S16384x32, .f32⟩
  | 64 => ⟨S16384x32, .f32⟩
  | 65 => ⟨S_, .i32⟩
  | 66 => ⟨S16384, .i32⟩
  | 67 => ⟨S16384, .i1⟩
  | 68 => ⟨S16384x1, .i1⟩
  | 69 => ⟨S16384x1, .f32⟩
  | 70 => ⟨S16384x32, .f32⟩
  | 71 => ⟨S16384x32, .f32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S1, .i32⟩
  | 81 => ⟨S_, .i32⟩
  | 82 => ⟨S16384x1, .i32⟩
  | 83 => ⟨S16384x1, .i1⟩
  | 84 => ⟨S1x1, .i32⟩
  | 85 => ⟨S16384x1, .i32⟩
  | 86 => ⟨S16384x1, .i1⟩
  | 87 => ⟨S16384x1, .i1⟩
  | 88 => ⟨S_, .i1⟩
  | 89 => ⟨S16384, .i1⟩
  | 90 => ⟨S16384x32, .f32⟩
  | 91 => ⟨S16384x32, .i1⟩
  | 92 => ⟨S_, .f32⟩
  | 93 => ⟨S16384x32, .f32⟩
  | 94 => ⟨S16384x32, .f32⟩
  | 95 => ⟨S_, .i32⟩
  | 96 => ⟨S16384, .i32⟩
  | 97 => ⟨S16384, .i1⟩
  | 98 => ⟨S16384x1, .i1⟩
  | 99 => ⟨S16384x1, .f32⟩
  | 100 => ⟨S16384x32, .f32⟩
  | 101 => ⟨S16384x32, .f32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S16384x1, .i32⟩
  | 110 => ⟨S1, .i32⟩
  | 111 => ⟨S_, .i32⟩
  | 112 => ⟨S16384x1, .i32⟩
  | 113 => ⟨S16384x1, .i1⟩
  | 114 => ⟨S1x1, .i32⟩
  | 115 => ⟨S16384x1, .i32⟩
  | 116 => ⟨S16384x1, .i1⟩
  | 117 => ⟨S16384x1, .i1⟩
  | 118 => ⟨S_, .i1⟩
  | 119 => ⟨S16384, .i1⟩
  | 120 => ⟨S16384x32, .f32⟩
  | 121 => ⟨S16384x32, .i1⟩
  | 122 => ⟨S_, .f32⟩
  | 123 => ⟨S16384x32, .f32⟩
  | 124 => ⟨S16384x32, .f32⟩
  | 125 => ⟨S_, .i32⟩
  | 126 => ⟨S16384, .i32⟩
  | 127 => ⟨S16384, .i1⟩
  | _ => ⟨S16384, .i32⟩

abbrev hbmTy0_1 (i : Nat) : BufTy := match i % 128 with
  | 0 => ⟨S16384x1, .i1⟩
  | 1 => ⟨S16384x1, .f32⟩
  | 2 => ⟨S16384x32, .f32⟩
  | 3 => ⟨S16384x32, .f32⟩
  | 4 => ⟨S16384x128, .f32⟩
  | 5 => ⟨S128x128, .f32⟩
  | 6 => ⟨S16384x128, .f32⟩
  | 7 => ⟨S1x128, .f32⟩
  | 8 => ⟨S16384x128, .f32⟩
  | 9 => ⟨S16384x128, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S16384x128, .f32⟩
  | 17 => ⟨S16384x128, .f32⟩
  | 18 => ⟨S16384x128, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x128, .f32⟩
  | 26 => ⟨S16384x128, .f32⟩
  | 27 => ⟨S_, .f32⟩
  | 28 => ⟨S16384x1, .f32⟩
  | 29 => ⟨S16384x1, .f32⟩
  | 30 => ⟨S16384x1, .f32⟩
  | 31 => ⟨S16384x128, .f32⟩
  | 32 => ⟨S16384x128, .f32⟩
  | 33 => ⟨S1x128, .f32⟩
  | 34 => ⟨S16384x128, .f32⟩
  | 35 => ⟨S16384x128, .f32⟩
  | 36 => ⟨S1x128, .f32⟩
  | 37 => ⟨S16384x128, .f32⟩
  | 38 => ⟨S16384x128, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_c : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v7 : Ref sig .tc := ⟨.hbm, 64, rfl⟩
abbrev main_c_0 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v14 : Ref sig .tc := ⟨.hbm, 94, rfl⟩
abbrev main_c_1 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v21 : Ref sig .tc := ⟨.hbm, 124, rfl⟩
abbrev main_c_2 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_cst : Ref sig .tc := ⟨.hbm, 138, rfl⟩
abbrev main_v34 : Ref sig .tc := ⟨.hbm, 139, rfl⟩
abbrev main_v35 : Ref sig .tc := ⟨.hbm, 140, rfl⟩
abbrev main_cst_3 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_cst_4 : Ref sig .tc := ⟨.hbm, 147, rfl⟩
abbrev main_v41 : Ref sig .tc := ⟨.hbm, 148, rfl⟩
abbrev main_v42 : Ref sig .tc := ⟨.hbm, 149, rfl⟩
abbrev main_cst_5 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_cst_6 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩

abbrev nD : Nat := 1
abbrev τ : Topo := Topo.v7x

variable {F : FTy → Type} [FloatOps F]
-- ==== Proof.Body.lean ====
/-
  The three kernel bodies, run once each over staging memrefs that are only known to be whole: what the buffers
  hold before and after, as functions of what is staged.
-/
module

public import proofs.«01_k».proof.Proof.Gen.KernelIdeal.Launch
public import proofs.«01_k».proof.Proof.Gen.KernelIdeal.Skeleton
public import Idealize.ShloMosaic.Lib.Pipeline.TableIdle
public import Idealize.ShloMosaic.Lib.VecWindow
public import Idealize.ShloMosaic.Lib.Tactic

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- A buffer stored to whole, read back: it owns what was stored. -/
theorem owns_stored {c : Thread nD τ} {sp : Space} {s : Shape} {e : EltTy} (M : Memref sig c.2.kind sp s e)
    {off : Fin s.rank → ℕ} (inb : ∀ a, off a + s.size a ≤ s.size a) (f : M.view.ty.Contents (Elt F)) (w : s.Idx → Elt F e) :
    (View.loc c M.view ↦[M.view.set]{fullShare}
        View.write (Elt F) (M.access (Rect.unit off s.size inb)) f w Finset.univ : sProp 𝕄)
      ⊢ owns c M fullShare w := by
  have h : M.view.read (Elt F) (View.write (Elt F) (M.access (Rect.unit off s.size inb)) f w Finset.univ) = w := by
    funext y
    have h := View.read_writes_cons_emb M.view f (Rect.unit off s.size inb) w [] y
    have hy : (Rect.unit off s.size inb).emb y = y := funext fun a => Fin.ext (by
      show off a + 1 * (y a).val = (y a).val
      have := inb a; omega)
    rw [hy] at h
    exact h
  unfold owns
  iintro H
  iexists _
  isplitr
  · ipureintro; exact h
  iexact H

/-- The first transposing body: it reads the staged block whole and leaves the result's buffer at the block
    transposed and widened. -/
theorem body0 (c : Dev nD) (E : Set ℕ) (i : grid0.Coords)
    (M1 : Memref sig .tc .vmem S32x512 .f32) (h1 : M1.IsWhole) (M2 : Memref sig .tc .vmem S512x128 .f32) (h2 : M2.IsWhole)
    (X : S32x512.Idx → Elt F .f32) (Y : S512x128.Idx → Elt F .f32) (K : PUnit → sProp 𝕄) :
    iprop((owns (c : Thread nD τ) M1 fullShare X ∗ owns (c : Thread nD τ) M2 fullShare Y)
          ∗ (iprop(owns (c : Thread nD τ) M1 fullShare X ∗ owns (c : Thread nD τ) M2 fullShare (k0_pay1 X)) -∗ K ⟨⟩))
      ⊢ wp frame (wpE (defs₀ (F := F)) Variants.none c none) E (cc0__transpose_body i M1 h1 M2 h2) K := by
  simp only [owns_eq_rep, cc0__transpose_body_eq_skeleton]; unfold cc0__transpose_body_skel
  simp only [Prog.lift, Prog.bind_op, Prog.bind_ret]
  iintro ⟨⟨H0, H1⟩, Hk⟩
  sl_steps
  iapply Hk
  rw [View.readAt_rep_full]
  ihave H2 := (owns_stored (c := (c : Thread nD τ)) M2 inb_S512x128_S512x128_0_0 _ _) $$ H1
  ihave H3 := (rep_of_owns (c : Thread nD τ) M2 _ _) $$ H2
  isplitl [H0]
  · iexact H0
  iexact H3

/-- The second transposing body: it reads the staged block whole and leaves the result's buffer at the block
    transposed and widened. -/
theorem body1 (c : Dev nD) (E : Set ℕ) (i : grid1.Coords)
    (M1 : Memref sig .tc .vmem S32x512 .f32) (h1 : M1.IsWhole) (M2 : Memref sig .tc .vmem S512x128 .f32) (h2 : M2.IsWhole)
    (X : S32x512.Idx → Elt F .f32) (Y : S512x128.Idx → Elt F .f32) (K : PUnit → sProp 𝕄) :
    iprop((owns (c : Thread nD τ) M1 fullShare X ∗ owns (c : Thread nD τ) M2 fullShare Y)
          ∗ (iprop(owns (c : Thread nD τ) M1 fullShare X ∗ owns (c : Thread nD τ) M2 fullShare (k1_pay1 X)) -∗ K ⟨⟩))
      ⊢ wp frame (wpE (defs₀ (F := F)) Variants.none c none) E (cc1__transpose_body i M1 h1 M2 h2) K := by
  simp only [owns_eq_rep, cc1__transpose_body_eq_skeleton]; unfold cc1__transpose_body_skel
  simp only [Prog.lift, Prog.bind_op, Prog.bind_ret]
  iintro ⟨⟨H0, H1⟩, Hk⟩
  sl_steps
  iapply Hk
  rw [View.readAt_rep_full]
  ihave H2 := (owns_stored (c := (c : Thread nD τ)) M2 inb_S512x128_S512x128_0_0 _ _) $$ H1
  ihave H3 := (rep_of_owns (c : Thread nD τ) M2 _ _) $$ H2
  isplitl [H0]
  · iexact H0
  iexact H3

/-- What the dense body leaves in its result's buffer, from what its eight operands' buffers hold. -/
def dense (X1 : S1024x128.Idx → Elt F .f32) (X2 : S32x1024.Idx → Elt F .f32) (X3 : S1024x128.Idx → Elt F .f32)
    (X4 : S32x1024.Idx → Elt F .f32) (W : S128x128.Idx → Elt F .f32) (B G T : S1x128.Idx → Elt F .f32) :
    S1024x128.Idx → Elt F .f32 :=
  let left : (S1024x128.Idx → Elt F .f32) → Vec F S1024x32 .f32 := fun X y =>
    X ((Rect.unit (s := S1024x128) ![0, 0] S1024x32.size inb_S1024x128_S1024x32_0_0).toLoadRect.idx y)
  let w0 : Vec F S128x32 .f32 := fun y => W ((Rect.unit (s := S128x128) ![0, 0] S128x32.size inb_S128x128_S128x32_0_0).toLoadRect.idx y)
  let w64 : Vec F S128x32 .f32 := fun y => W ((Rect.unit (s := S128x128) ![0, 64] S128x32.size inb_S128x128_S128x32_0_64).toLoadRect.idx y)
  let w32 : Vec F S128x32 .f32 := fun y => W ((Rect.unit (s := S128x128) ![0, 32] S128x32.size inb_S128x128_S128x32_0_32).toLoadRect.idx y)
  let w96 : Vec F S128x32 .f32 := fun y => W ((Rect.unit (s := S128x128) ![0, 96] S128x32.size inb_S128x128_S128x32_0_96).toLoadRect.idx y)
  k2_pay1 (k2_pay2 B (left X1) w0 (left X3) w64 X2 w32 X4 w96) (k2_pay3 B (left X1) w0 (left X3) w64 X2 w32 X4 w96)
    k2_pay4 G T

/-- The dense body: it reads its eight operands' buffers and leaves `dense` of them in the result's. -/
theorem body2 (c : Dev nD) (E : Set ℕ) (i : grid2.Coords)
    (M1 : Memref sig .tc .vmem S1024x128 .f32) (h1 : M1.IsWhole) (M2 : Memref sig .tc .vmem S32x1024 .f32) (h2 : M2.IsWhole)
    (M3 : Memref sig .tc .vmem S1024x128 .f32) (h3 : M3.IsWhole) (M4 : Memref sig .tc .vmem S32x1024 .f32) (h4 : M4.IsWhole)
    (M5 : Memref sig .tc .vmem S128x128 .f32) (h5 : M5.IsWhole) (M6 : Memref sig .tc .vmem S1x128 .f32) (h6 : M6.IsWhole)
    (M7 : Memref sig .tc .vmem S1x128 .f32) (h7 : M7.IsWhole) (M8 : Memref sig .tc .vmem S1x128 .f32) (h8 : M8.IsWhole)
    (M9 : Memref sig .tc .vmem S1024x128 .f32) (h9 : M9.IsWhole)
    (X1 : S1024x128.Idx → Elt F .f32) (X2 : S32x1024.Idx → Elt F .f32) (X3 : S1024x128.Idx → Elt F .f32)
    (X4 : S32x1024.Idx → Elt F .f32) (W : S128x128.Idx → Elt F .f32) (B G T : S1x128.Idx → Elt F .f32)
    (Y : S1024x128.Idx → Elt F .f32) (K : PUnit → sProp 𝕄) :
    iprop((owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare W ∗ owns (c : Thread nD τ) M6 fullShare B
            ∗ owns (c : Thread nD τ) M7 fullShare G ∗ owns (c : Thread nD τ) M8 fullShare T
            ∗ owns (c : Thread nD τ) M9 fullShare Y)
          ∗ (iprop(owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare W ∗ owns (c : Thread nD τ) M6 fullShare B
            ∗ owns (c : Thread nD τ) M7 fullShare G ∗ owns (c : Thread nD τ) M8 fullShare T
            ∗ owns (c : Thread nD τ) M9 fullShare (dense X1 X2 X3 X4 W B G T)) -∗ K ⟨⟩))
      ⊢ wp frame (wpE (defs₀ (F := F)) Variants.none c none) E
          (cc2__dense_body i M1 h1 M2 h2 M3 h3 M4 h4 M5 h5 M6 h6 M7 h7 M8 h8 M9 h9) K := by
  simp only [owns_eq_rep, cc2__dense_body_eq_skeleton]; unfold cc2__dense_body_skel
  simp only [k2_part1_eq_skeleton]; unfold k2_part1_skel
  simp only [Prog.lift, Prog.bind_op, Prog.bind_ret, pure_bind]
  iintro ⟨⟨H1, H2, H3, H4, H5, H6, H7, H8, H9⟩, Hk⟩
  sl_steps
  iapply Hk
  ihave H10 := (owns_stored (c := (c : Thread nD τ)) M9 inb_S1024x128_S1024x128_0_0 _ _) $$ H9
  rw [View.readAt_rep_full M6.view, View.readAt_rep_full M2.view, View.readAt_rep_full M4.view, View.readAt_rep_full M7.view,
    View.readAt_rep_full M8.view]
  simp only [View.readAt_rep]
  ihave H11 := (rep_of_owns (c : Thread nD τ) M9 _ _) $$ H10
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H11

end Cert.KProof
end
-- ==== Proof.Data.lean ====
/-
  What each of the three regions does, as relations on its staging buffers, from any contents of the buffers at
  the region's entry; and that the bodies keep to the relations.
-/
module

public import proofs.«01_k».proof.Proof.Body
public import proofs.«01_k».proof.Proof.Gen.KernelIdeal.Points
public import proofs.«01_k».proof.Proof.Gen.KernelIdeal.Regions
public import Idealize.ShloMosaic.Lib.Pipeline.FrameBody

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]
variable {U : Type} [URA U]

local notation "𝕄" => MT nD τ sig Unit (Elt F) ℕ U ℕ

/-- The three pipelines' configurations. -/
abbrev cfgF (F : FTy → Type) [FloatOps F] (p : Fin 3) := Pipeline.pin (pcfgs (F := F)) adm p

instance (e : EltTy) : Nonempty (Elt F e) := inferInstance

/-- The block of the array behind window `w` at a point, as far as it lies inside the array. -/
def blkOf (p : Fin 3) (V : Valuation τ sig (Elt F)) (w : Fin (cfgF F p).W) (t : Fin (cfgF F p).N) :
    (((cfgF F p).win w).xblock ((cfgF F p).grid.coords t)).Idx → Elt F ((cfgF F p).win w).elt :=
  (((cfgF F p).win w).blk t).view.read (Elt F) (V (Proc.devRef .tc (arrRef (cfgF F p).spec w)))

/-- What window `w`'s staging buffer holds after the fetch at a point, if it held `d` before. -/
def staged (p : Fin 3) (V : Valuation τ sig (Elt F)) (w : Fin (cfgF F p).W) (t : Fin (cfgF F p).N)
    (d : ((cfgF F p).win w).block.Idx → Elt F ((cfgF F p).win w).elt) :
    ((cfgF F p).win w).block.Idx → Elt F ((cfgF F p).win w).elt :=
  ((cfgF F p).win w).fill ((cfgF F p).grid.coords t) d (blkOf p V w t)

/-- Region 0's buffers: the operand's stays, the result's is the staged block transposed and widened. -/
def after0 (V : Valuation τ sig (Elt F)) : (w : Fin 2) → Fin (cfgF F 0).N →
    (Y X : ((cfgF F 0).win w).block.Idx → Elt F ((cfgF F 0).win w).elt) → Prop
  | 0, _, Y, X => X = Y
  | 1, t, _, X => ∃ d, X = k0_pay1 (staged 0 V 0 t d)

/-- Region 1's buffers, likewise. -/
def after1 (V : Valuation τ sig (Elt F)) : (w : Fin 2) → Fin (cfgF F 1).N →
    (Y X : ((cfgF F 1).win w).block.Idx → Elt F ((cfgF F 1).win w).elt) → Prop
  | 0, _, Y, X => X = Y
  | 1, t, _, X => ∃ d, X = k1_pay1 (staged 1 V 0 t d)

/-- Region 2's buffers: the operands' stay, the result's is `dense` of what is staged. -/
def after2 (V : Valuation τ sig (Elt F)) : (w : Fin 9) → Fin (cfgF F 2).N →
    (Y X : ((cfgF F 2).win w).block.Idx → Elt F ((cfgF F 2).win w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, _, Y, X => X = Y
  | 8, t, _, X => ∃ d0 d1 d2 d3 d4 d5 d6 d7, X = dense (staged 2 V 0 t d0) (staged 2 V 1 t d1) (staged 2 V 2 t d2)
      (staged 2 V 3 t d3) (staged 2 V 4 t d4) (staged 2 V 5 t d5) (staged 2 V 6 t d6) (staged 2 V 7 t d7)

/-- A region's relation. -/
def afterOf (V : Valuation τ sig (Elt F)) : (p : Fin 3) → (w : Fin (cfgF F p).W) → Fin (cfgF F p).N →
    (Y X : ((cfgF F p).win w).block.Idx → Elt F ((cfgF F p).win w).elt) → Prop
  | 0 => after0 V
  | 1 => after1 V
  | 2 => after2 V

/-- The regions' data at the valuation `V`: the arrays are what `V` has, and nothing else is held but the scoped
    buffers no window stages. -/
def rdat (U : Type) [URA U] (V : Valuation τ sig (Elt F)) (p : Fin 3) (c : Dev nD) : RDat τ (Elt F) Unit ℕ U ℕ (cfgF F p) c where
  A w := V (Proc.devRef .tc (arrRef (cfgF F p).spec w))
  after := afterOf V p
  Φ _ := scopedRest (cfgF F p).spec c
  q _ := fullShare
  owed _ := 0

theorem rdat_share (V : Valuation τ sig (Elt F)) (p : Fin 3) (c : Dev nD) (w : Fin (cfgF F p).W) :
    (rdat U V p c).share w = fullShare := by
  unfold RDat.share; split <;> rfl

theorem rdat_phi (V : Valuation τ sig (Elt F)) (p : Fin 3) (c : Dev nD) (t : Fin ((cfgF F p).N + 1)) :
    (rdat U V p c).Φ t = scopedRest (cfgF F p).spec c := rfl

theorem rdat_owes (V : Valuation τ sig (Elt F)) (p : Fin 3) (c : Dev nD) (t t' : Fin ((cfgF F p).N + 1)) :
    (rdat U V p c).owesAt () t = (rdat U V p c).owesAt () t' := by
  unfold RDat.owesAt; rfl

/-- Region 0's body keeps to its relation. -/
theorem hbody0 (V : Valuation τ sig (Elt F)) (c : Dev nD) :
    (rdat U V 0 c).BodyObligation (defs₀ (F := F)) Variants.none () Set.univ := by
  intro t Y hY
  obtain ⟨d, hd⟩ := ((rdat U V 0 c).finds_of_fetch (w := 0) (t := t) (fetch0_0 t) (Y 0)).mp (hY 0)
  show iprop((rdat U V 0 c).Φ t.castSucc ∗ (rdat U V 0 c).owesAt () t.castSucc ∗ bigSep (Finset.univ : Finset (Fin 2)) _)
    ⊢ wp frame (wpE (defs₀ (F := F)) Variants.none (c : Thread nD τ) none) Set.univ (bodyAt0 t)
      fun _ => iprop((rdat U V 0 c).Φ t.succ ∗ (rdat U V 0 c).owesAt () t.succ ∗ bigSep (Finset.univ : Finset (Fin 2)) _)
  rw [bigSep_W0, bigSep_W0, rdat_owes V 0 c t.succ t.castSucc, rdat_phi V 0 c t.succ, rdat_phi V 0 c t.castSucc]
  iintro ⟨HΦ, HO, H0, H1⟩
  iapply (body0 c Set.univ (grid0.coords t) (win0_0.stage ((cfgF F 0).slots t 0)) _ (win0_1.stage ((cfgF F 0).slots t 1)) _
    (Y 0) (Y 1) _)
  isplitl [H0 H1]
  · isplitl [H0]
    · iexact H0
    iexact H1
  iintro ⟨H0, H1⟩
  isplitl [HΦ]
  · iexact HΦ
  isplitl [HO]
  · iexact HO
  isplitl [H0]
  · iexists (Y 0)
    isplitr
    · ipureintro; exact rfl
    iexact H0
  iexists (k0_pay1 (Y 0))
  isplitr
  · ipureintro; exact ⟨d, congrArg k0_pay1 hd⟩
  iexact H1

/-- Region 1's body keeps to its relation. -/
theorem hbody1 (V : Valuation τ sig (Elt F)) (c : Dev nD) :
    (rdat U V 1 c).BodyObligation (defs₀ (F := F)) Variants.none () Set.univ := by
  intro t Y hY
  obtain ⟨d, hd⟩ := ((rdat U V 1 c).finds_of_fetch (w := 0) (t := t) (fetch1_0 t) (Y 0)).mp (hY 0)
  show iprop((rdat U V 1 c).Φ t.castSucc ∗ (rdat U V 1 c).owesAt () t.castSucc ∗ bigSep (Finset.univ : Finset (Fin 2)) _)
    ⊢ wp frame (wpE (defs₀ (F := F)) Variants.none (c : Thread nD τ) none) Set.univ (bodyAt1 t)
      fun _ => iprop((rdat U V 1 c).Φ t.succ ∗ (rdat U V 1 c).owesAt () t.succ ∗ bigSep (Finset.univ : Finset (Fin 2)) _)
  rw [bigSep_W1, bigSep_W1, rdat_owes V 1 c t.succ t.castSucc, rdat_phi V 1 c t.succ, rdat_phi V 1 c t.castSucc]
  iintro ⟨HΦ, HO, H0, H1⟩
  iapply (body1 c Set.univ (grid1.coords t) (win1_0.stage ((cfgF F 1).slots t 0)) _ (win1_1.stage ((cfgF F 1).slots t 1)) _
    (Y 0) (Y 1) _)
  isplitl [H0 H1]
  · isplitl [H0]
    · iexact H0
    iexact H1
  iintro ⟨H0, H1⟩
  isplitl [HΦ]
  · iexact HΦ
  isplitl [HO]
  · iexact HO
  isplitl [H0]
  · iexists (Y 0)
    isplitr
    · ipureintro; exact rfl
    iexact H0
  iexists (k1_pay1 (Y 0))
  isplitr
  · ipureintro; exact ⟨d, congrArg k1_pay1 hd⟩
  iexact H1

/-- What region 2's body finds staged for an operand. -/
theorem found2 (V : Valuation τ sig (Elt F)) (c : Dev nD) (w : Fin 9) (hw : ((cfgF F 2).win w).isOut = false)
    (hclip : ∀ t t' : Fin (cfgF F 2).N, ((cfgF F 2).win w).index t = ((cfgF F 2).win w).index t' →
      ((cfgF F 2).win w).clip ((cfgF F 2).grid.coords t) = ((cfgF F 2).win w).clip ((cfgF F 2).grid.coords t'))
    (hkeep : ∀ t Y X, after2 V w t Y X → X = Y) (t : Fin (cfgF F 2).N)
    (Y : ((cfgF F 2).win w).block.Idx → Elt F ((cfgF F 2).win w).elt) (hY : (rdat U V 2 c).Finds w t Y) :
    ∃ d, Y = staged 2 V w t d :=
  RDat.finds_in_eq_fetched (rdat U V 2 c) w hw hclip hkeep t Y hY

/-- Region 2's body keeps to its relation. -/
theorem hbody2 (V : Valuation τ sig (Elt F)) (c : Dev nD) :
    (rdat U V 2 c).BodyObligation (defs₀ (F := F)) Variants.none () Set.univ := by
  intro t Y hY
  obtain ⟨d0, hd0⟩ := found2 V c 0 rfl (fun _ _ _ => rfl) (fun _ _ _ h => h) t (Y 0) (hY 0)
  obtain ⟨d1, hd1⟩ := found2 V c 1 rfl (fun _ _ _ => rfl) (fun _ _ _ h => h) t (Y 1) (hY 1)
  obtain ⟨d2, hd2⟩ := found2 V c 2 rfl (fun _ _ _ => rfl) (fun _ _ _ h => h) t (Y 2) (hY 2)
  obtain ⟨d3, hd3⟩ := found2 V c 3 rfl (fun _ _ _ => rfl) (fun _ _ _ h => h) t (Y 3) (hY 3)
  obtain ⟨d4, hd4⟩ := found2 V c 4 rfl (fun _ _ _ => rfl) (fun _ _ _ h => h) t (Y 4) (hY 4)
  obtain ⟨d5, hd5⟩ := found2 V c 5 rfl (fun _ _ _ => rfl) (fun _ _ _ h => h) t (Y 5) (hY 5)
  obtain ⟨d6, hd6⟩ := found2 V c 6 rfl (fun _ _ _ => rfl) (fun _ _ _ h => h) t (Y 6) (hY 6)
  obtain ⟨d7, hd7⟩ := found2 V c 7 rfl (fun _ _ _ => rfl) (fun _ _ _ h => h) t (Y 7) (hY 7)
  show iprop((rdat U V 2 c).Φ t.castSucc ∗ (rdat U V 2 c).owesAt () t.castSucc ∗ bigSep (Finset.univ : Finset (Fin 9)) _)
    ⊢ wp frame (wpE (defs₀ (F := F)) Variants.none (c : Thread nD τ) none) Set.univ (bodyAt2 t)
      fun _ => iprop((rdat U V 2 c).Φ t.succ ∗ (rdat U V 2 c).owesAt () t.succ ∗ bigSep (Finset.univ : Finset (Fin 9)) _)
  rw [bigSep_W2, bigSep_W2, rdat_owes V 2 c t.succ t.castSucc, rdat_phi V 2 c t.succ, rdat_phi V 2 c t.castSucc]
  iintro ⟨HΦ, HO, H0, H1, H2, H3, H4, H5, H6, H7, H8⟩
  iapply (body2 c Set.univ (grid2.coords t) (win2_0.stage ((cfgF F 2).slots t 0)) _ (win2_1.stage ((cfgF F 2).slots t 1)) _ (win2_2.stage ((cfgF F 2).slots t 2)) _ (win2_3.stage ((cfgF F 2).slots t 3)) _ (win2_4.stage ((cfgF F 2).slots t 4)) _ (win2_5.stage ((cfgF F 2).slots t 5)) _ (win2_6.stage ((cfgF F 2).slots t 6)) _ (win2_7.stage ((cfgF F 2).slots t 7)) _ (win2_8.stage ((cfgF F 2).slots t 8)) _
    (Y 0) (Y 1) (Y 2) (Y 3) (Y 4) (Y 5) (Y 6) (Y 7) (Y 8) _)
  isplitl [H0 H1 H2 H3 H4 H5 H6 H7 H8]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    iexact H8
  iintro ⟨H0, H1, H2, H3, H4, H5, H6, H7, H8⟩
  isplitl [HΦ]
  · iexact HΦ
  isplitl [HO]
  · iexact HO
  isplitl [H0]
  · iexists (Y 0)
    isplitr
    · ipureintro; exact rfl
    iexact H0
  isplitl [H1]
  · iexists (Y 1)
    isplitr
    · ipureintro; exact rfl
    iexact H1
  isplitl [H2]
  · iexists (Y 2)
    isplitr
    · ipureintro; exact rfl
    iexact H2
  isplitl [H3]
  · iexists (Y 3)
    isplitr
    · ipureintro; exact rfl
    iexact H3
  isplitl [H4]
  · iexists (Y 4)
    isplitr
    · ipureintro; exact rfl
    iexact H4
  isplitl [H5]
  · iexists (Y 5)
    isplitr
    · ipureintro; exact rfl
    iexact H5
  isplitl [H6]
  · iexists (Y 6)
    isplitr
    · ipureintro; exact rfl
    iexact H6
  isplitl [H7]
  · iexists (Y 7)
    isplitr
    · ipureintro; exact rfl
    iexact H7
  iexists (dense (Y 0) (Y 1) (Y 2) (Y 3) (Y 4) (Y 5) (Y 6) (Y 7))
  isplitr
  · ipureintro
    exact ⟨d0, d1, d2, d3, d4, d5, d6, d7, by rw [← hd0, ← hd1, ← hd2, ← hd3, ← hd4, ← hd5, ← hd6, ← hd7]⟩
  iexact H8

end Cert.KProof
end
-- ==== Proof.Record.lean ====
/-
  The three regions as segments of the program: entered with every unscoped buffer at a valuation, left with the
  region's result at contents its write-backs can leave, and every other buffer as it was.
-/
module

public import proofs.«01_k».proof.Proof.Data
public import Idealize.ShloMosaic.Lib.Pipeline.RegionArraysF
public import Idealize.ShloMosaic.Lib.Pipeline.RegionsLoop
public import Idealize.ShloMosaic.Lib.Pipeline.RegionsForget
public import Idealize.ShloMosaic.Lib.Pipeline.RegionsForgetR

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]
variable {U : Type} [URA U]

local notation "𝕄" => MT nD τ sig Unit (Elt F) ℕ U ℕ

/-- No wait of the program carries an index. -/
abbrev LL : GSem nD τ sig → Finset Unit := fun _ => ∅
abbrev lvl : GSem nD τ sig → Unit → ℕ := fun _ _ => 0

/-- What rides beside the buffers: the core's random-bit register and its empty debt. -/
abbrev Rest (F : FTy → Type) [FloatOps F] (U : Type) [URA U] (c : Dev nD) : sProp 𝕄 :=
  iprop((∃ r, prngReg c r) ∗ ∃ W, owes (c : Thread nD τ) (0 : CellTallies nD τ sig Unit) W)

/-- The buffer a window copies to or from. -/
abbrev arrOf (F : FTy → Type) [FloatOps F] (p : Fin 3) (w : Fin (cfgF F p).W) : DevRef τ sig :=
  Proc.devRef .tc (arrRef (cfgF F p).spec w)

/-- The arrays of the data at contents a valuation has are the buffers behind them held at it. -/
theorem arrays_eq_held {p : Fin 3} (kit : LaunchFacts (nD := nD) (τ := τ) cfgs p) (V : Valuation τ sig (Elt F)) (c : Dev nD)
    (G : (w : Fin (cfgF F p).W) → Buf (Elt F) (((cfgF F p).win w).arr.view.loc (c.tc : Thread nD τ)))
    (V' : Valuation τ sig (Elt F)) (hG : ∀ w, G w = V' (arrOf F p w)) :
    ((rdat U V p c).arrays G : sProp 𝕄) = StableHlo.held (c.tc : Thread nD τ) (arrRefs (cfgF F p).spec) V' := by
  rw [RDat.arrays_eq (pcfgs (F := F)) adm (rdat U V) p c kit.arr_whole (rdat_share V p c) G]
  unfold StableHlo.held arrRefs
  rw [bigSep_map, show Finset.univ.image (arrRef (cfgF F p).spec) = Finset.univ.map ⟨arrRef (cfgF F p).spec, kit.win.arr_inj⟩ from
    (Finset.map_eq_image ⟨arrRef (cfgF F p).spec, kit.win.arr_inj⟩ Finset.univ).symm, bigSep_map]
  exact bigSep_congr fun w _ => by rw [hG]; rfl

/-- A region's record at the entry valuation `V`, `o` its one result window. -/
def record (p : Fin 3) (kit : LaunchFacts (nD := nD) (τ := τ) cfgs p) (o : Fin (cfgF F p).W)
    (ho : ∀ w, w ≠ o → ((cfgF F p).win w).isOut = false) (hu : ∀ w, (arrRef (cfgF F p).spec w).isScoped = false)
    (V : Valuation τ sig (Elt F))
    (hbody : ∀ c, (rdat U V p c).BodyObligation (defs₀ (F := F)) Variants.none () Set.univ) :
    RDat.RegionSeg (pcfgs (F := F)) adm (rdat U V) () (defs₀ (F := F)) Variants.none LL lvl p where
  win := (kit.toP (Val := Elt F)).to₀.win
  block_pos := (kit.toP (Val := Elt F)).to₀.block_pos
  stage_whole := (kit.toP (Val := Elt F)).to₀.stage_whole
  K := PEmpty
  osem k := k.elim
  ho := OwnSemFacts.none _
  hbody := hbody
  hwaits c := RDat.hwaits_of_owed_zero (pcfgs (F := F)) adm (rdat U V) () LL lvl p (fun _ _ => rfl) c
  pre c := iprop(StableHlo.held (c : Thread nD τ) (ucRefs τ sig) V ∗ Rest F U c)
  post c := iprop(∃ X, ⌜(rdat U V p c).ArrAt o (cfgF F p).N X⌝
    ∗ StableHlo.held (c : Thread nD τ) (ucRefs τ sig) (Function.update V (arrOf F p o) X) ∗ Rest F U c)
  X _ := iprop(emp)
  Y _ := iprop(emp)
  Z c := iprop(StableHlo.held (c : Thread nD τ) (ucRefs τ sig \ arrRefs (cfgF F p).spec) V ∗ ∃ r, prngReg c r)
  hentry c := by
    rw [ownSems0_none, prefHeld_of_none _ rfl, arrays_eq_held kit V c (rdat U V p c).A V (fun _ => rfl),
      StableHlo.held_sub_split (c : Thread nD τ) (arrRefs_sub_ucRefs (cfgF F p).spec hu)]
    iintro ⟨⟨⟨Ha, Hr⟩, Hp, HO⟩, -, -⟩
    imodintro
    isplitl [Ha]; · iexact Ha
    isplitr; · iempintro
    isplitl [HO]
    · unfold RDat.owesAt owesWithin RDat.bound
      icases HO with ⟨%W, HO⟩; iexists W; isplitr; · ipureintro; exact fun _ _ => Or.inl trivial
      iexact HO
    isplitr; · iempintro
    isplitl [Hr]; · iexact Hr
    iexact Hp
  hin c := by
    rw [rdat_phi]
    iintro ⟨-, -, H⟩
    iexact H
  hout c := by
    rw [ownSems0_none, rdat_phi]
    iintro H
    isplitr; · iempintro
    isplitr; · iempintro
    iexact H
  hexit c := by
    unfold RDat.arraysAt
    iintro ⟨Ha, HO, -, Hr, Hp⟩
    ihave Ha := (BI.bigSep_exists_pi Finset.univ _) $$ Ha
    icases Ha with ⟨%A, Ha⟩
    ihave Ha := (BI.bigSep_pure_sep Finset.univ (fun w => (rdat U V p c).ArrAt w (cfgF F p).N (A w)) _) $$ Ha
    icases Ha with ⟨%hA, Ha⟩
    imodintro
    iexists (A o)
    isplitr; · ipureintro; exact hA o (Finset.mem_univ o)
    have hG : ∀ w, A w = Function.update V (arrOf F p o) (A o) (arrOf F p w) := fun w => by
      by_cases h : w = o
      · subst h; rw [Function.update_self]
      · rw [Function.update_of_ne fun e => h (kit.win.arr_inj (Proc.devRef_injective _ e))]
        have := hA w (Finset.mem_univ w)
        rw [RDat.ArrAt_in _ w (ho w h)] at this
        exact this
    have hrest : (StableHlo.held (c : Thread nD τ) (ucRefs τ sig \ arrRefs (cfgF F p).spec) (Function.update V (arrOf F p o) (A o)) : sProp 𝕄)
        = StableHlo.held (c : Thread nD τ) (ucRefs τ sig \ arrRefs (cfgF F p).spec) V :=
      StableHlo.held_congr _ fun b hb => Function.update_of_ne (fun e => (Finset.mem_sdiff.mp hb).2 (by
        rw [e]; exact Finset.mem_map_of_mem _ (Finset.mem_image_of_mem _ (Finset.mem_univ o)))) _ _
    have hsplit := StableHlo.held_sub_split (Ix := Unit) (Name := ℕ) (U := U) (Lvl := ℕ) (c : Thread nD τ)
      (arrRefs_sub_ucRefs (cfgF F p).spec hu) (Function.update V (arrOf F p o) (A o))
    rw [hsplit, hrest, ← arrays_eq_held kit V c A _ hG]
    unfold RDat.arrays
    isplitl [Ha Hr]
    · isplitl [Ha]; · iexact Ha
      iexact Hr
    isplitl [Hp]; · iexact Hp
    unfold RDat.owesAt owesWithin
    icases HO with ⟨%W, -, HO⟩; iexists W; iexact HO

end Cert.KProof
end
-- ==== Proof.Run.lean ====
/-
  The whole program's run, from any memory: the three regions with the host stretches before them, one after the
  other. Each region's result is at contents its write-backs can leave; every other buffer is determined.
-/
module

public import proofs.«01_k».proof.Proof.Record
public import Idealize.ShloMosaic.Lib.HostLoop.Plain
public import Idealize.ShloMosaic.Lib.HostLoop.Lifted

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- One copy of the regions' round counters per region. -/
abbrev UU : Type := IProdConst (Fin 3) (UR sig nD τ) × UR sig nD τ

local notation "𝕄" => MT nD τ sig Unit (Elt F) ℕ UU ℕ

/-- No host loop. -/
abbrev noLoops (F : FTy → Type) [FloatOps F] : Fin 0 → Prog (TpuEff nD τ sig (Elt F) (HostLoop.Sig (Pipeline.Sig Λ₀ (Fin 3) fun p => PCfg.Adm (pcfgs (F := F) p)) 0) .tc) PUnit :=
  fun l => l.elim0

/-- A ticket per region. -/
def tickets (V : Valuation τ sig (Elt F)) (j : Fin 3) :
    Ticket (Ix := Unit) (Name := ℕ) (U := UU) (Lvl := ℕ) (nD := nD) (τ := τ) (pcfgs (F := F)) adm where
  p := j
  pdats p c := { A := (rdat UU V p c).A, after := fun _ _ _ => Classical.arbitrary _, Φ := (rdat UU V p c).Φ,
                 q := (rdat UU V p c).q, owed := (rdat UU V p c).owed }
  EP := embAt j

theorem out0 : ∀ w : Fin 2, w ≠ 1 → ((cfgF F 0).win w).isOut = false := fun | 0, _ => rfl | 1, h => absurd rfl h
theorem out1 : ∀ w : Fin 2, w ≠ 1 → ((cfgF F 1).win w).isOut = false := fun | 0, _ => rfl | 1, h => absurd rfl h
theorem out2 : ∀ w : Fin 9, w ≠ 8 → ((cfgF F 2).win w).isOut = false := fun
  | 0, _ => rfl | 1, _ => rfl | 2, _ => rfl | 3, _ => rfl | 4, _ => rfl | 5, _ => rfl | 6, _ => rfl | 7, _ => rfl
  | 8, h => absurd rfl h
theorem uns0 : ∀ w : Fin 2, (arrRef (cfgF F 0).spec w).isScoped = false := fun | 0 => rfl | 1 => rfl
theorem uns1 : ∀ w : Fin 2, (arrRef (cfgF F 1).spec w).isScoped = false := fun | 0 => rfl | 1 => rfl
theorem uns2 : ∀ w : Fin 9, (arrRef (cfgF F 2).spec w).isScoped = false := fun
  | 0 => rfl | 1 => rfl | 2 => rfl | 3 => rfl | 4 => rfl | 5 => rfl | 6 => rfl | 7 => rfl | 8 => rfl

/-- The regions' records. -/
abbrev rec0 (V : Valuation τ sig (Elt F)) := record (U := UU) 0 launch0 (1 : Fin 2) out0 uns0 V (hbody0 V)
abbrev rec1 (V : Valuation τ sig (Elt F)) := record (U := UU) 1 launch1 (1 : Fin 2) out1 uns1 V (hbody1 V)
abbrev rec2 (V : Valuation τ sig (Elt F)) := record (U := UU) 2 launch2 (8 : Fin 9) out2 uns2 V (hbody2 V)

/-! ## What is known of the buffers after each item -/

variable (m : (ℓ : Loc nD τ sig) → Buf (Elt F) ℓ)

/-- Before region 0. -/
abbrev St1 (V : Valuation τ sig (Elt F)) (c : Dev nD) : Prop := V = StableHlo.after hostOps0 (V0 m c)
/-- After region 0. -/
abbrev St2 (V : Valuation τ sig (Elt F)) (c : Dev nD) : Prop :=
  ∃ V' X, St1 m V' c ∧ (rdat UU V' 0 c).ArrAt (1 : Fin 2) (cfgF F 0).N X ∧ V = Function.update V' (arrOf F 0 (1 : Fin 2)) X
/-- Before region 1. -/
abbrev St3 (V : Valuation τ sig (Elt F)) (c : Dev nD) : Prop := ∃ V', St2 m V' c ∧ V = StableHlo.after hostOps1 V'
/-- After region 1. -/
abbrev St4 (V : Valuation τ sig (Elt F)) (c : Dev nD) : Prop :=
  ∃ V' X, St3 m V' c ∧ (rdat UU V' 1 c).ArrAt (1 : Fin 2) (cfgF F 1).N X ∧ V = Function.update V' (arrOf F 1 (1 : Fin 2)) X
/-- Before region 2. -/
abbrev St5 (V : Valuation τ sig (Elt F)) (c : Dev nD) : Prop := ∃ V', St4 m V' c ∧ V = StableHlo.after hostOps2 V'
/-- At the end. -/
abbrev St6 (V : Valuation τ sig (Elt F)) (c : Dev nD) : Prop :=
  ∃ V' X, St5 m V' c ∧ (rdat UU V' 2 c).ArrAt (8 : Fin 9) (cfgF F 2).N X ∧ V = Function.update V' (arrOf F 2 (8 : Fin 9)) X

/-- The state between two items: every unscoped buffer held at a valuation of which `St` is known. -/
abbrev State (St : Valuation τ sig (Elt F) → Dev nD → Prop) (c : Dev nD) : sProp 𝕄 :=
  iprop(∃ V, ⌜St V c⌝ ∗ StableHlo.held (c : Thread nD τ) (ucRefs τ sig) V ∗ Rest F UU c)

abbrev Seg₀ (m : (ℓ : Loc nD τ sig) → Buf (Elt F) ℓ) : Type _ :=
  CSeg (pcfgs (F := F)) adm (defs₀ (F := F)) Variants.none LL lvl (noLoops F) (tickets (V0 m 0))

/-- A host stretch from a state. -/
def hostS (St : Valuation τ sig (Elt F) → Dev nD → Prop) (ops : List (HloOp τ sig (Elt F)))
    (hS : ∀ op ∈ ops, op.bufs ⊆ ucRefs τ sig) (hf : ∀ op ∈ ops, op.fresh = ∅) : Seg₀ m :=
  CSeg.exSel St (fun V => CSeg.ofOps _ _ _ _ _ _ _ _ (ucRefs τ sig) ops hS hf (fun _ => V) (Rest F UU))
    (StableHlo.seq ops) (fun _ => rfl) 0 (fun _ => le_rfl) ∅ (fun _ => rfl)

/-- A region from a state. -/
def regS (St : Valuation τ sig (Elt F) → Dev nD → Prop) (j : Fin 3)
    (R : (V : Valuation τ sig (Elt F)) → RDat.RegionSeg (pcfgs (F := F)) adm (rdat UU V) () (defs₀ (F := F)) Variants.none LL lvl j) : Seg₀ m :=
  CSeg.regionFR (pcfgs (F := F)) adm () cellOf_inj (defs₀ (F := F)) Variants.none LL lvl (noLoops F) (tickets (V0 m 0)) j
    (fun V => rdat UU V) R St

theorem sub_uc {ops : List (HloOp τ sig (Elt F))} (h : ops.Forall fun op => op.bufs ⊆ StableHlo.tcRefs τ sig) :
    ∀ op ∈ ops, op.bufs ⊆ ucRefs τ sig := fun op hop => Pipeline.sub_ucRefs op ((List.forall_iff_forall_mem.mp h) op hop)

/-- The program's items in order. -/
def items : List (Seg₀ m) :=
  [ hostS m (fun V c => V = V0 m c) hostOps0 (sub_uc hostOps0_sub) (List.forall_iff_forall_mem.mp hostOps0_fresh),
    regS m (St1 m) 0 rec0,
    hostS m (St2 m) hostOps1 (sub_uc hostOps1_sub) (List.forall_iff_forall_mem.mp hostOps1_fresh),
    regS m (St3 m) 1 rec1,
    hostS m (St4 m) hostOps2 (sub_uc hostOps2_sub) (List.forall_iff_forall_mem.mp hostOps2_fresh),
    regS m (St5 m) 2 rec2 ]

/-- A host stretch's end is the next region's beginning. -/
theorem link_host (St St' : Valuation τ sig (Elt F) → Dev nD → Prop) (ops : List (HloOp τ sig (Elt F)))
    (h : ∀ V c, St V c → St' (StableHlo.after ops V) c) (c : Dev nD) :
    (iprop(∃ V, ⌜St V c⌝ ∗ StableHlo.held (c : Thread nD τ) (ucRefs τ sig) (StableHlo.after ops V) ∗ Rest F UU c) : sProp 𝕄)
      ⊢ State St' c := by
  iintro ⟨%V, %hV, H⟩
  iexists (StableHlo.after ops V)
  isplitr; · ipureintro; exact h V c hV
  iexact H

/-- A region's end is the next stretch's beginning. -/
theorem link_region (St St' : Valuation τ sig (Elt F) → Dev nD → Prop) (p : Fin 3) (o : Fin (cfgF F p).W)
    (h : ∀ V c X, St V c → (rdat UU V p c).ArrAt o (cfgF F p).N X → St' (Function.update V (arrOf F p o) X) c) (c : Dev nD) :
    (iprop(∃ V, ⌜St V c⌝ ∗ ∃ X, ⌜(rdat UU V p c).ArrAt o (cfgF F p).N X⌝
        ∗ StableHlo.held (c : Thread nD τ) (ucRefs τ sig) (Function.update V (arrOf F p o) X) ∗ Rest F UU c) : sProp 𝕄)
      ⊢ State St' c := by
  iintro ⟨%V, %hV, %X, %hX, H⟩
  iexists (Function.update V (arrOf F p o) X)
  isplitr; · ipureintro; exact h V c X hV hX
  iexact H

theorem items_disjoint : (items m).Pairwise fun s s' => Disjoint s.T s'.T := by
  refine List.pairwise_map.mp (?_ : List.Pairwise Disjoint ((items m).map CSeg.T))
  show List.Pairwise Disjoint ([∅, {0}, ∅, {1}, ∅, {2}] : List (Finset (Fin 3)))
  decide

/-- What the run leaves at the end. -/
abbrev Last (c : Dev nD) : sProp 𝕄 :=
  iprop((∃ V, ⌜St6 m V c⌝ ∗ StableHlo.held (c : Thread nD τ) (ucRefs τ sig) V) ∗ ∃ r, prngReg c r)

theorem items_chain : CSeg.Chains (State fun V c => V = V0 m c) (items m)
    fun c => iprop(Last m c ∗ ∃ W, owes (c : Thread nD τ) (0 : CellTallies nD τ sig Unit) W) :=
  ⟨fun _ => .rfl,
   link_host _ (St1 m) _ (fun V c h => by subst h; rfl),
   link_region _ (St2 m) 0 (1 : Fin 2) (fun V c X h hX => ⟨V, X, h, hX, rfl⟩),
   link_host _ (St3 m) _ (fun V c h => ⟨V, h, rfl⟩),
   link_region _ (St4 m) 1 (1 : Fin 2) (fun V c X h hX => ⟨V, X, h, hX, rfl⟩),
   link_host _ (St5 m) _ (fun V c h => ⟨V, h, rfl⟩),
   fun c => (link_region _ (St6 m) 2 (8 : Fin 9) (fun V c X h hX => ⟨V, X, h, hX, rfl⟩) c).trans (by
    iintro ⟨%V, %hV, H, Hp, HO⟩
    isplitr [HO]; swap; · iexact HO
    isplitr [Hp]; swap; · iexact Hp
    iexists V
    isplitr; · ipureintro; exact hV
    iexact H)⟩

theorem main_lifted (c : Dev nD) : HostLoop.liftProg (L := 0) (main (F := F) c) = CSeg.runL (items m) := by
  rw [main_chain, HostLoop.liftProg_chain]
  simp only [List.map_cons, List.map_nil, HostLoop.liftProg_seq]
  rfl

set_option backward.isDefEq.respectTransparency.types false in
/-- The run: from any memory with the semaphores at zero it ends, faults nowhere, leaves the semaphores at zero and
    every unscoped buffer at a valuation of which the last state is known. -/
theorem run_main (g : Dev nD → PrngReg) :
    θ_run (defs (F := F)) (onTc (τ := τ) (main (F := F))) ⟨m, fun _ => 0, g⟩
      (fun r => (∀ c : Dev nD, ∃ V, St6 m V c ∧ ∀ b ∈ ucRefs τ sig, r.2.mem ((c : Thread nD τ).1, b) = V b)
        ∧ r.2.sem = fun _ => 0) := by
  refine HostLoop.θ_run_of_lift (noLoops F) _ (main (F := F)) _ _ ?_
  refine Pipeline.θ_run_regions_loop_kit_sems (pcfgs (F := F)) adm cellOf_inj (defs₀ (F := F)) Variants.none LL lvl (noLoops F)
    (tickets (V0 m 0)) m g _ (items m) (fun c Q => by rw [main_lifted m c]) (items_disjoint m) (O₀ := 0) (fun _ _ => rfl)
    (G := fun _ => iprop(emp))
    (u₀ := (fun _ => Rounds.initOf (Pipeline.cells (Pipeline.pin (pcfgs (F := F)) adm) cellOf_inj) (Pipeline.launchToks (Pipeline.pin (pcfgs (F := F)) adm) cellOf_inj), 1))
    ?_ (State fun V c => V = V0 m c) (Last m) (items_chain m) ?_
    (fun c s => ∃ V, St6 m V c ∧ ∀ b ∈ ucRefs τ sig, s.mem ((c : Thread nD τ).1, b) = V b) ?_
    (fun _ h hz => ⟨h, funext fun g => hz g (.inr (regions_no_unscoped g.2))⟩)
  · iintro Hu
    ihave H := (ownU_pair _ _) $$ Hu
    icases H with ⟨H, -⟩
    ihave H := (own_iprod _) $$ H
    imodintro
    isplitl [H]; · iexact H
    iapply (show (BI.emp : sProp 𝕄) ⊢ bigSep Finset.univ fun _ : Dev nD => BI.emp from by rw [BI.bigSep_emp_const])
    iempintro
  · refine Pipeline.initEach LL lvl fun c => ?_
    rw [unscopedBufs_held (Ix := Unit) (Name := ℕ) (U := UU) (Lvl := ℕ) c (V0 m c)]
    iintro ⟨⟨Hh, -, HO, -, Hp, -⟩, -⟩
    imodintro
    iexists (V0 m c)
    isplitr; · ipureintro; rfl
    isplitl [Hh]; · iexact Hh
    isplitl [Hp]; · iexists _; iexact Hp
    iexists _; iexact HO
  · intro c s'
    unfold Last StableHlo.held
    iintro ⟨⟨⟨%V, %hV, Hh⟩, -⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro; exact ⟨V, hV, h⟩
    iexact HSI

end Cert.KProof
end
-- ==== Proof.Frame.lean ====
/-
  From the run: the arguments are unchanged, and the last valuation is the generated chain of valuations at some
  contents of the three regions' results.
-/
module

public import proofs.«01_k».proof.Proof.Run
public import proofs.«01_k».proof.Defs
public import proofs.«01_k».proof.Proof.Gen.Kernel

@[expose] public section

noncomputable section

namespace Cert.KProof

open Cert.KernelIdeal Cert.KernelIdeal.Gen
open Idealize.ShloMosaic Idealize.ShloMosaic.TcCoe
open Idealize.SL.Sem
open Idealize.ShloMosaic.Pipeline

variable {F : FTy → Type} [FloatOps F]
variable (m : (ℓ : Loc nD τ sig) → Buf (Elt F) ℓ)

/-- The three regions' results are contents that their write-backs can leave. -/
structure Left (outs : Outs (F := F)) (c : Dev nD) : Prop where
  r0 : (rdat UU (V1 m c) 0 c).ArrAt (1 : Fin 2) (cfgF F 0).N (outs 2 main_v1 c)
  r1 : (rdat UU (V3 m outs c) 1 c).ArrAt (1 : Fin 2) (cfgF F 1).N (outs 4 main_v3 c)
  r2 : (rdat UU (V5 m outs c) 2 c).ArrAt (8 : Fin 9) (cfgF F 2).N (outs 6 main_v37 c)

/-- The last state in the generated terms. -/
theorem last_eq {V : Valuation τ sig (Elt F)} {c : Dev nD} (h : St6 m V c) : ∃ outs, Left m outs c ∧ V = V6 m outs c := by
  obtain ⟨V', X2, ⟨_, ⟨V'', X1, ⟨_, ⟨_, X0, rfl, h0, rfl⟩, rfl⟩, h1, rfl⟩, rfl⟩, h2, rfl⟩ := h
  let outs : Outs (F := F) := fun k => match k with
    | 2 => fun r _ => Function.update (V0 m c) (Proc.devRef .tc main_v1) X0 (Proc.devRef .tc r)
    | 4 => fun r _ => Function.update (V0 m c) (Proc.devRef .tc main_v3) X1 (Proc.devRef .tc r)
    | _ => fun r _ => Function.update (V0 m c) (Proc.devRef .tc main_v37) X2 (Proc.devRef .tc r)
  have e0 : outs 2 main_v1 c = X0 := Function.update_self (Proc.devRef .tc main_v1) X0 (V0 m c)
  have e1 : outs 4 main_v3 c = X1 := Function.update_self (Proc.devRef .tc main_v3) X1 (V0 m c)
  have e2 : outs 6 main_v37 c = X2 := Function.update_self (Proc.devRef .tc main_v37) X2 (V0 m c)
  have f2 : V2 m outs c = Function.update (StableHlo.after hostOps0 (V0 m c)) (Proc.devRef .tc main_v1) X0 := by
    rw [← e0]
  have f3 : V3 m outs c = StableHlo.after hostOps1 (Function.update (StableHlo.after hostOps0 (V0 m c)) (Proc.devRef .tc main_v1) X0) := by
    rw [← f2]
  have f4 : V4 m outs c = Function.update (V3 m outs c) (Proc.devRef .tc main_v3) X1 := by
    rw [← e1]
  have f5 : V5 m outs c = StableHlo.after hostOps2 (Function.update (V3 m outs c) (Proc.devRef .tc main_v3) X1) := by
    rw [← f4]
  have f6 : V6 m outs c = Function.update (V5 m outs c) (Proc.devRef .tc main_v37) X2 := by
    rw [← e2]
  refine ⟨outs, ⟨?_, ?_, ?_⟩, ?_⟩
  · rw [e0]; exact h0
  · rw [e1, f3]; exact h1
  · rw [e2, f5, f3]; exact h2
  · rw [f6, f5, f3]
    rfl

/-- Every final memory: the semaphores at zero, every unscoped buffer at the generated chain's last valuation. -/
theorem run_outs (g : Dev nD → PrngReg) :
    θ_run (defs (F := F)) (onTc (τ := τ) (main (F := F))) ⟨m, fun _ => 0, g⟩
      (fun r => (∀ c : Dev nD, ∃ outs, Left m outs c ∧ ∀ b ∈ ucRefs τ sig, r.2.mem ((c : Thread nD τ).1, b) = V6 m outs c b)
        ∧ r.2.sem = fun _ => 0) :=
  (θ_run _ _ _).mono (fun r h => ⟨fun c => by
    obtain ⟨V, hV, hb⟩ := h.1 c
    obtain ⟨outs, ho, rfl⟩ := last_eq m hV
    exact ⟨outs, ho, hb⟩, h.2⟩) (run_main m g)

/-- The frame of the idealized kernel's program, its floats any. -/
def FrameI (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
  θ_run (Cert.KernelIdeal.defs (F := F)) (onTc (τ := Cert.KernelIdeal.τ) (Cert.KernelIdeal.main (F := F))) ⟨m, fun _ => 0, g⟩ (fun r => (∀ c : Dev Cert.KernelIdeal.nD,
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
    ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
    ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
    ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
    ∧ r.2.sem = fun _ => 0)

/-- The frame of the kernel's program, its floats any. -/
def FrameK (F : FTy → Type) [FloatOps F] : Prop :=
  ∀ (m : (ℓ : Loc Cert.Kernel.nD Cert.Kernel.τ Cert.Kernel.sig) → Buf (Elt F) ℓ) (g : Dev Cert.Kernel.nD → PrngReg),
  θ_run (Cert.Kernel.defs (F := F)) (onTc (τ := Cert.Kernel.τ) (Cert.Kernel.main (F := F))) ⟨m, fun _ => 0, g⟩ (fun r => (∀ c : Dev Cert.Kernel.nD,
    r.2.mem ((c.tc : Thread Cert.Kernel.nD Cert.Kernel.τ).loc Cert.Kernel.main_arg0) = m ((c.tc : Thread Cert.Kernel.nD Cert.Kernel.τ).loc Cert.Kernel.main_arg0)
    ∧ r.2.mem ((c.tc : Thread Cert.Kernel.nD Cert.Kernel.τ).loc Cert.Kernel.main_arg1) = m ((c.tc : Thread Cert.Kernel.nD Cert.Kernel.τ).loc Cert.Kernel.main_arg1)
    ∧ r.2.mem ((c.tc : Thread Cert.Kernel.nD Cert.Kernel.τ).loc Cert.Kernel.main_arg2) = m ((c.tc : Thread Cert.Kernel.nD Cert.Kernel.τ).loc Cert.Kernel.main_arg2)
    ∧ r.2.mem ((c.tc : Thread Cert.Kernel.nD Cert.Kernel.τ).loc Cert.Kernel.main_arg3) = m ((c.tc : Thread Cert.Kernel.nD Cert.Kernel.τ).loc Cert.Kernel.main_arg3)
    ∧ r.2.mem ((c.tc : Thread Cert.Kernel.nD Cert.Kernel.τ).loc Cert.Kernel.main_arg4) = m ((c.tc : Thread Cert.Kernel.nD Cert.Kernel.τ).loc Cert.Kernel.main_arg4)
    ∧ r.2.mem ((c.tc : Thread Cert.Kernel.nD Cert.Kernel.τ).loc Cert.Kernel.main_arg5) = m ((c.tc : Thread Cert.Kernel.nD Cert.Kernel.τ).loc Cert.Kernel.main_arg5)
    ∧ r.2.mem ((c.tc : Thread Cert.Kernel.nD Cert.Kernel.τ).loc Cert.Kernel.main_arg6) = m ((c.tc : Thread Cert.Kernel.nD Cert.Kernel.τ).loc Cert.Kernel.main_arg6)
    ∧ r.2.mem ((c.tc : Thread Cert.Kernel.nD Cert.Kernel.τ).loc Cert.Kernel.main_arg7) = m ((c.tc : Thread Cert.Kernel.nD Cert.Kernel.τ).loc Cert.Kernel.main_arg7)
    ∧ r.2.mem ((c.tc : Thread Cert.Kernel.nD Cert.Kernel.τ).loc Cert.Kernel.main_arg8) = m ((c.tc : Thread Cert.Kernel.nD Cert.Kernel.τ).loc Cert.Kernel.main_arg8)
    ∧ r.2.mem ((c.tc : Thread Cert.Kernel.nD Cert.Kernel.τ).loc Cert.Kernel.main_arg9) = m ((c.tc : Thread Cert.Kernel.nD Cert.Kernel.τ).loc Cert.Kernel.main_arg9)
    ∧ r.2.mem ((c.tc : Thread Cert.Kernel.nD Cert.Kernel.τ).loc Cert.Kernel.main_arg10) = m ((c.tc : Thread Cert.Kernel.nD Cert.Kernel.τ).loc Cert.Kernel.main_arg10)
    ∧ r.2.mem ((c.tc : Thread Cert.Kernel.nD Cert.Kernel.τ).loc Cert.Kernel.main_arg11) = m ((c.tc : Thread Cert.Kernel.nD Cert.Kernel.τ).loc Cert.Kernel.main_arg11))
    ∧ r.2.sem = fun _ => 0)

theorem uc (r : Ref sig .tc) (h : r.isScoped = false) : (Proc.devRef .tc r : DevRef τ sig) ∈ ucRefs τ sig :=
  Finset.mem_filter.mpr ⟨StableHlo.devRef_mem_tcRefs r, fun h' => Bool.false_ne_true (h.symm.trans h')⟩

/-- The idealized kernel's program leaves its arguments unchanged and its semaphores at zero. -/
theorem frameI (F : FTy → Type) [FloatOps F] : FrameI F := fun m g =>
  (θ_run _ _ _).mono (fun r hr => ⟨fun c => by
    obtain ⟨outs, -, h⟩ := hr.1 c
    exact ⟨(h _ (uc main_arg0 (by decide))).trans (V6_main_arg0 m outs c),
      (h _ (uc main_arg1 (by decide))).trans (V6_main_arg1 m outs c),
      (h _ (uc main_arg2 (by decide))).trans (V6_main_arg2 m outs c),
      (h _ (uc main_arg3 (by decide))).trans (V6_main_arg3 m outs c),
      (h _ (uc main_arg4 (by decide))).trans (V6_main_arg4 m outs c),
      (h _ (uc main_arg5 (by decide))).trans (V6_main_arg5 m outs c),
      (h _ (uc main_arg6 (by decide))).trans (V6_main_arg6 m outs c),
      (h _ (uc main_arg7 (by decide))).trans (V6_main_arg7 m outs c),
      (h _ (uc main_arg8 (by decide))).trans (V6_main_arg8 m outs c),
      (h _ (uc main_arg9 (by decide))).trans (V6_main_arg9 m outs c),
      (h _ (uc main_arg10 (by decide))).trans (V6_main_arg10 m outs c),
      (h _ (uc main_arg11 (by decide))).trans (V6_main_arg11 m outs c)⟩, hr.2⟩)
    (run_outs m g)

end Cert.KProof
end
-- ==== Proof.Twin.lean ====
/-
  The two printed kernels are one program: what one's frame says the other's says.
-/
module

public import proofs.«01_k».proof.Proof.Frame
public import proofs.«01_k».proof.Proof.Gen.Kernel
public import Idealize.ShloMosaic.Lib.Pipeline.Regions

@[expose] public section

noncomputable section

namespace Cert.KProof

open Idealize.ShloMosaic Idealize.ShloMosaic.TcCoe

theorem twin (F : FTy → Type) [FloatOps F] : FrameK F = FrameI F := by chain_rfl

/-- The kernel's program leaves its arguments unchanged and its semaphores at zero. -/
theorem frameK (F : FTy → Type) [FloatOps F] : FrameK F := (twin F).symm ▸ frameI F

end Cert.KProof
end
-- ==== Proof.Gathers.lean ====
/-
  The gathers read at an index: the row (or the column) that the index word names, clamped to the table.
-/
module

public import proofs.«01_k».proof.Proof.Gen.KernelIdeal
public import proofs.«01_k».proof.Proof.Gen.ReferenceIdeal
public import Idealize.ShloMosaic.Lib.Pointwise

@[expose] public section

noncomputable section

namespace Cert.KProof

open Idealize.ShloMosaic

/-- The row a word names in a table of `n + 1` rows: read signed, clamped to the table. -/
def rowOf (n : Nat) (w : BitVec 32) : Fin (n + 1) := ⟨min w.toInt.toNat n, by omega⟩

/-- Rows of an `n + 1` by `k` table, gathered by `m` index words. -/
theorem gather_rows {n k m : Nat} (wf : GatherDims.WF (⟨2, ![n + 1, k]⟩ : Shape) (⟨2, ![m, 1]⟩ : Shape) (⟨2, ![m, k]⟩ : Shape) [1] [0] [] [0] [] 1 ![1, k])
    (x : (⟨2, ![n + 1, k]⟩ : Shape).Idx → EReal) (i : IVec (⟨2, ![m, 1]⟩ : Shape) 32) (r : Fin m) (l : Fin k) :
    Host.gather (⟨[1], [0], [], [], [0], 1, ![1, k], wf⟩ : GatherDims _ (⟨2, ![m, 1]⟩ : Shape) _) x i (ix2 r l)
      = x (ix2 (rowOf n (i (ix2 r 0))) l) := by
  unfold Host.gather
  congr 1
  funext a
  fin_cases a
  · apply Fin.ext
    have e : (⟨[1], [0], [], [], [0], 1, ![1, k], wf⟩ : GatherDims (⟨2, ![n + 1, k]⟩ : Shape) (⟨2, ![m, 1]⟩ : Shape) (⟨2, ![m, k]⟩ : Shape)).siIdx
        (ix2 r l) ⟨0, by simp⟩ = ix2 r 0 := by
      funext b; fin_cases b <;> rfl
    exact congrArg (fun z => min (i z).toInt.toNat n) e
  · apply Fin.ext
    show 0 + 0 + l.val = l.val
    omega

/-- Columns of a `k` by `n + 1` table, gathered by `m` index words. -/
theorem gather_cols {n k m : Nat} (wf : GatherDims.WF (⟨2, ![k, n + 1]⟩ : Shape) (⟨2, ![m, 1]⟩ : Shape) (⟨2, ![k, m]⟩ : Shape) [0] [1] [] [1] [] 1 ![k, 1])
    (x : (⟨2, ![k, n + 1]⟩ : Shape).Idx → EReal) (i : IVec (⟨2, ![m, 1]⟩ : Shape) 32) (r : Fin m) (l : Fin k) :
    Host.gather (⟨[0], [1], [], [], [1], 1, ![k, 1], wf⟩ : GatherDims _ (⟨2, ![m, 1]⟩ : Shape) _) x i (ix2 l r)
      = x (ix2 l (rowOf n (i (ix2 r 0)))) := by
  unfold Host.gather
  congr 1
  funext a
  fin_cases a
  · apply Fin.ext
    show 0 + 0 + l.val = l.val
    omega
  · apply Fin.ext
    have e : (⟨[0], [1], [], [], [1], 1, ![k, 1], wf⟩ : GatherDims (⟨2, ![k, n + 1]⟩ : Shape) (⟨2, ![m, 1]⟩ : Shape) (⟨2, ![k, m]⟩ : Shape)).siIdx
        (ix2 l r) ⟨0, by simp⟩ = ix2 r 0 := by
      funext b; fin_cases b <;> rfl
    exact congrArg (fun z => min (i z).toInt.toNat n) e

theorem gather_ref_small (x : (⟨2, ![100000, 32]⟩ : Shape).Idx → EReal) (i : IVec (⟨2, ![16384, 1]⟩ : Shape) 32) (r : Fin 16384) (l : Fin 32) :
    Host.gather Cert.ReferenceIdeal.gather_S100000x32_S16384x1_S16384x32_1_0_n_n_0_1_132 x i (ix2 r l)
      = x (ix2 (rowOf 99999 (i (ix2 r 0))) l) := gather_rows _ x i r l

theorem gather_ref_large (x : (⟨2, ![1000000, 32]⟩ : Shape).Idx → EReal) (i : IVec (⟨2, ![16384, 1]⟩ : Shape) 32) (r : Fin 16384) (l : Fin 32) :
    Host.gather Cert.ReferenceIdeal.gather_S1000000x32_S16384x1_S16384x32_1_0_n_n_0_1_132 x i (ix2 r l)
      = x (ix2 (rowOf 999999 (i (ix2 r 0))) l) := gather_rows _ x i r l

theorem gather_small (x : (⟨2, ![100000, 128]⟩ : Shape).Idx → EReal) (i : IVec (⟨2, ![16384, 1]⟩ : Shape) 32) (r : Fin 16384) (l : Fin 128) :
    Host.gather Cert.KernelIdeal.gather_S100000x128_S16384x1_S16384x128_1_0_n_n_0_1_1128 x i (ix2 r l)
      = x (ix2 (rowOf 99999 (i (ix2 r 0))) l) := gather_rows _ x i r l

theorem gather_large (x : (⟨2, ![32, 1000000]⟩ : Shape).Idx → EReal) (i : IVec (⟨2, ![16384, 1]⟩ : Shape) 32) (r : Fin 16384) (l : Fin 32) :
    Host.gather Cert.KernelIdeal.gather_S32x1000000_S16384x1_S32x16384_0_1_n_n_1_1_321 x i (ix2 l r)
      = x (ix2 l (rowOf 999999 (i (ix2 r 0)))) := gather_cols _ x i r l

end Cert.KProof
end
-- ==== Proof.Payload.lean ====
/-
  What the three bodies compute at an index, over the extended reals.
-/
module

public import proofs.«01_k».proof.Proof.Body
public import Idealize.ShloMosaic.Lib.Pointwise

@[expose] public section

noncomputable section

namespace Cert.KProof

open Cert.KernelIdeal Cert.KernelIdeal.Gen
open Idealize.ShloMosaic

/-- Position `k` of the `q`-th run of 32 columns. -/
def col (q : Fin 4) (k : Fin 32) : Fin 128 := ⟨32 * q.val + k.val, by omega⟩

/-- The mean of a row. -/
def mean (x : Fin 128 → EReal) : EReal := Ideal.div (∑ k, x k) (Ideal.ofBits .f32 0x43000000#32)

/-- The variance of a row and the small constant. -/
def spread (x : Fin 128 → EReal) : EReal :=
  Ideal.div (∑ k, (x k - mean x) * (x k - mean x)) (Ideal.ofBits .f32 0x43000000#32) + Ideal.ofBits .f32 0x3727C5AC#32

/-- A row normalised, scaled and shifted. -/
def normed (x g t : Fin 128 → EReal) (c : Fin 128) : EReal := (x c - mean x) * Ideal.rsqrt (spread x) * g c + t c

/-- A row of the dense layer, from the four embeddings. -/
def lin (e : Fin 4 → Fin 32 → EReal) (W : Fin 128 → Fin 128 → EReal) (b : Fin 128 → EReal) (c : Fin 128) : EReal :=
  b c + ∑ k, e 0 k * W c (col 0 k) + ∑ k, e 2 k * W c (col 2 k) + ∑ k, e 1 k * W c (col 1 k) + ∑ k, e 3 k * W c (col 3 k)

/-- One where the two coordinates agree, zero elsewhere. -/
theorem delta (x : Fin 32) (l : Fin 32) :
    (FloatOps.sitofp (F := Ideal) FTy.f32 (BitVec.setWidth 32 (IntOp.cmpi CmpIPredicate.eq (BitVec.ofNat 32 x.val) (BitVec.ofNat 32 l.val))) : EReal)
      = if x = l then 1 else 0 := by
  have h : ∀ b : BitVec 1, (FloatOps.sitofp (F := Ideal) FTy.f32 (BitVec.setWidth 32 b) : EReal) = if b = 1#1 then 1 else 0 := by
    intro b
    have hb : b = 0#1 ∨ b = 1#1 := by revert b; decide
    rcases hb with rfl | rfl
    · show (((((0#1).setWidth 32).toInt : ℤ) : ℝ) : EReal) = _
      simp
    · show (((((1#1).setWidth 32).toInt : ℤ) : ℝ) : EReal) = _
      simp
  rw [h]
  have e : (IntOp.cmpi CmpIPredicate.eq (BitVec.ofNat 32 x.val) (BitVec.ofNat 32 l.val) = 1#1) ↔ x = l := by
    rw [IntOp.cmpi_eq]; revert x l; decide
  simp only [e]

/-- A transposing body's block: the operand's rows as columns, zero beyond column 32. -/
theorem k0_at (X : FVec Ideal S32x512 .f32) (r : Fin 512) (l : Fin 128) :
    k0_pay1 (F := Ideal) X (ix2 r l) = if h : l.val < 32 then X (ix2 ⟨l.val, h⟩ r) else 0 := by
  pointwise [k0_pay1]
  split
  · rename_i h
    refine (Finset.sum_congr rfl fun x _ => by rw [delta x ⟨l.val, h⟩]).trans ?_
    simp
  · simp

/-- The two transposing bodies compute the same. -/
theorem k1_eq (X : FVec Ideal S32x512 .f32) : k1_pay1 (F := Ideal) X = k0_pay1 X := rfl

section Dense

variable (B G T : FVec Ideal S1x128 .f32) (X1 X3 : FVec Ideal S1024x32 .f32) (w0 w64 w32 w96 : FVec Ideal S128x32 .f32)
  (X2 X4 : FVec Ideal S32x1024 .f32) (W : Fin 128 → Fin 128 → EReal) (e : Fin 4 → Fin 32 → EReal) (r : Fin 1024)

/-- A row of the dense layer less its mean, as the body computes it. -/
theorem centred_at (h0 : ∀ c k, w0 (ix2 c k) = W c (col 0 k)) (h1 : ∀ c k, w32 (ix2 c k) = W c (col 1 k))
    (h2 : ∀ c k, w64 (ix2 c k) = W c (col 2 k)) (h3 : ∀ c k, w96 (ix2 c k) = W c (col 3 k))
    (g0 : ∀ k, X1 (ix2 r k) = e 0 k) (g1 : ∀ k, X2 (ix2 k r) = e 1 k) (g2 : ∀ k, X3 (ix2 r k) = e 2 k)
    (g3 : ∀ k, X4 (ix2 k r) = e 3 k) (c : Fin 128) :
    k2_pay2 (F := Ideal) B X1 w0 X3 w64 X2 w32 X4 w96 (ix2 r c)
      = lin e W (fun c => B (ix2 0 c)) c - mean (lin e W (fun c => B (ix2 0 c))) := by
  pointwise [k2_pay2]
  simp only [h0, h1, h2, h3, g0, g1, g2, g3]
  rfl

/-- The sum of the squares of the centred row. -/
theorem squares_at (j : S1024x1.Idx) (hj : j = ix2 r 0) (x : Fin 128 → EReal)
    (h : ∀ c, k2_pay2 (F := Ideal) B X1 w0 X3 w64 X2 w32 X4 w96 (ix2 r c) = x c) :
    k2_pay3 (F := Ideal) B X1 w0 X3 w64 X2 w32 X4 w96 j = ∑ c, x c * x c := by
  subst hj
  pointwise [k2_pay3]
  simp only [h]

/-- The last payload at an index. -/
theorem scaled_at (v : FVec Ideal S1024x128 .f32) (s : FVec Ideal S1024x1 .f32) (c : Fin 128) :
    k2_pay1 (F := Ideal) v s k2_pay4 G T (ix2 r c)
      = v (ix2 r c) * Ideal.rsqrt (Ideal.div (s (ix2 r 0)) (Ideal.ofBits .f32 0x43000000#32) + Ideal.ofBits .f32 0x3727C5AC#32)
          * G (ix2 0 c) + T (ix2 0 c) := by
  pointwise [k2_pay1, k2_pay4]

/-- A column of a 32-wide load of a 128-wide buffer. -/
theorem loaded {n : Nat} (q : Fin 4) (inb) (r : Fin n) (k : Fin 32) :
    (Rect.unit (s := (⟨2, ![n, 128]⟩ : Shape)) ![0, 32 * q.val] ![n, 32] inb).toLoadRect.idx (ix2 r k) = ix2 r (col q k) := by
  funext a
  fin_cases a
  · apply Fin.ext
    show 0 + 1 * r.val = r.val
    omega
  · apply Fin.ext
    show 32 * q.val + 1 * k.val = 32 * q.val + k.val
    omega

end Dense

/-- The dense body's block at an index: the layer's row normalised. -/
theorem dense_at (X1 : FVec Ideal S1024x128 .f32) (X2 : FVec Ideal S32x1024 .f32) (X3 : FVec Ideal S1024x128 .f32)
    (X4 : FVec Ideal S32x1024 .f32) (W : FVec Ideal S128x128 .f32) (B G T : FVec Ideal S1x128 .f32) (e : Fin 4 → Fin 32 → EReal)
    (r : Fin 1024) (g0 : ∀ k, X1 (ix2 r (col 0 k)) = e 0 k) (g1 : ∀ k, X2 (ix2 k r) = e 1 k)
    (g2 : ∀ k, X3 (ix2 r (col 0 k)) = e 2 k) (g3 : ∀ k, X4 (ix2 k r) = e 3 k) (c : Fin 128) :
    dense (F := Ideal) X1 X2 X3 X4 W B G T (ix2 r c)
      = normed (lin e (fun c k => W (ix2 c k)) fun c => B (ix2 0 c)) (fun c => G (ix2 0 c)) (fun c => T (ix2 0 c)) c := by
  unfold dense
  have hl := centred_at B (fun y => X1 ((Rect.unit (s := S1024x128) ![0, 0] ![1024, 32] inb_S1024x128_S1024x32_0_0).toLoadRect.idx y))
    (fun y => X3 ((Rect.unit (s := S1024x128) ![0, 0] ![1024, 32] inb_S1024x128_S1024x32_0_0).toLoadRect.idx y))
    (fun y => W ((Rect.unit (s := S128x128) ![0, 0] ![128, 32] inb_S128x128_S128x32_0_0).toLoadRect.idx y))
    (fun y => W ((Rect.unit (s := S128x128) ![0, 64] ![128, 32] inb_S128x128_S128x32_0_64).toLoadRect.idx y))
    (fun y => W ((Rect.unit (s := S128x128) ![0, 32] ![128, 32] inb_S128x128_S128x32_0_32).toLoadRect.idx y))
    (fun y => W ((Rect.unit (s := S128x128) ![0, 96] ![128, 32] inb_S128x128_S128x32_0_96).toLoadRect.idx y)) X2 X4 (fun c k => W (ix2 c k)) e r
    (fun c k => congrArg W (loaded 0 inb_S128x128_S128x32_0_0 c k)) (fun c k => congrArg W (loaded 1 inb_S128x128_S128x32_0_32 c k))
    (fun c k => congrArg W (loaded 2 inb_S128x128_S128x32_0_64 c k)) (fun c k => congrArg W (loaded 3 inb_S128x128_S128x32_0_96 c k))
    (fun k => (congrArg X1 (loaded 0 inb_S1024x128_S1024x32_0_0 r k)).trans (g0 k)) g1
    (fun k => (congrArg X3 (loaded 0 inb_S1024x128_S1024x32_0_0 r k)).trans (g2 k)) g3
  refine (scaled_at G T r _ _ c).trans ?_
  exact congrArg₂ (fun a b => a * Ideal.rsqrt (Ideal.div b (Ideal.ofBits .f32 0x43000000#32) + Ideal.ofBits .f32 0x3727C5AC#32)
          * G (ix2 0 c) + T (ix2 0 c)) (hl c) (squares_at B _ _ _ _ _ _ X2 X4 r _ rfl _ hl)

end Cert.KProof
end
-- ==== Proof.Spec.lean ====
/-
  The result both programs compute, element by element, over the extended reals.
-/
module

public import proofs.«01_k».proof.Proof.Gathers
public import proofs.«01_k».proof.Proof.Payload

@[expose] public section

noncomputable section

namespace Cert.KProof

open Idealize.ShloMosaic

/-- An index that is not negative is not shifted. -/
theorem wrap_eq (w k : BitVec 32) (h : 0 ≤ w.toInt) : Scalar.select (IntOp.cmpi CmpIPredicate.slt w 0#32) (IntOp.addi w k) w = w := by
  have : IntOp.cmpi CmpIPredicate.slt w 0#32 = 0#1 := by
    have := mt IntOp.cmpi_slt.mp (not_lt.mpr (show (0#32).toInt ≤ w.toInt by simpa using h))
    revert this
    generalize IntOp.cmpi CmpIPredicate.slt w 0#32 = b
    revert b; decide
  rw [this]; rfl

/-- A sum over 128 columns in runs of 32. -/
theorem sum_runs (f : Fin 128 → EReal) :
    ∑ x, f x = ∑ k, f (col 0 k) + ∑ k, f (col 1 k) + ∑ k, f (col 2 k) + ∑ k, f (col 3 k) := by
  refine (Fin.sum_univ_add (a := 96) (b := 32) f).trans (congrArg₂ (· + ·) ?_ ?_)
  · refine (Fin.sum_univ_add (a := 64) (b := 32) _).trans (congrArg₂ (· + ·) ?_ ?_)
    · refine (Fin.sum_univ_add (a := 32) (b := 32) _).trans (congrArg₂ (· + ·) ?_ ?_)
      · exact Finset.sum_congr rfl fun k _ => congrArg f (Fin.ext (by simp [col] <;> omega))
      · exact Finset.sum_congr rfl fun k _ => congrArg f (Fin.ext (by simp [col] <;> omega))
    · exact Finset.sum_congr rfl fun k _ => congrArg f (Fin.ext (by simp [col] <;> omega))
  · exact Finset.sum_congr rfl fun k _ => congrArg f (Fin.ext (by simp [col] <;> omega))

/-- A square is not negative. -/
theorem square_nonneg (x : EReal) : 0 ≤ x * x := by
  induction x with
  | bot => simp
  | top => simp
  | coe r => rw [← EReal.coe_mul]; exact_mod_cast mul_self_nonneg r

theorem width : Ideal.ofBits .f32 0x43000000#32 = ((128 : ℝ) : EReal) := by
  simp [Ideal.ofBits, Ideal.ieee, -EReal.coe_mul]; norm_num

theorem small_pos : 0 < Ideal.ofBits .f32 0x3727C5AC#32 := by
  simp [Ideal.ofBits, Ideal.ieee, -EReal.coe_mul]

/-- A row's spread is positive. -/
theorem spread_pos (x : Fin 128 → EReal) : 0 < spread x := by
  unfold spread
  have h : 0 ≤ Ideal.div (∑ k, (x k - mean x) * (x k - mean x)) (Ideal.ofBits .f32 0x43000000#32) := by
    rw [width, Ideal.div_coe (by norm_num)]
    exact mul_nonneg (Finset.sum_nonneg fun k _ => square_nonneg _) (by exact_mod_cast (by norm_num : (0 : ℝ) ≤ 1 / 128))
  exact lt_of_lt_of_le small_pos (le_add_of_nonneg_left h)

/-- Dividing by the root of a positive value is multiplying by its inverse root. -/
theorem div_sqrt (x v : EReal) (h : 0 < v) : Ideal.div x (Ideal.sqrt v) = x * Ideal.rsqrt v := by
  induction v with
  | bot => exact absurd h (by simp)
  | top => simp [Ideal.div]
  | coe r =>
    have hr : 0 < r := by exact_mod_cast h
    have hs : Real.sqrt r ≠ 0 := (Real.sqrt_pos.mpr hr).ne'
    rw [Ideal.sqrt_coe, Ideal.rsqrt_coe, if_neg (not_lt.mpr hr.le), if_neg (not_lt.mpr hr.le), if_neg hr.ne', Ideal.div_coe hs, one_div]

/-- The four embeddings of row `r`. -/
def embedded (a0 a1 a2 a3 : IVec (⟨1, ![16384]⟩ : Shape) 32) (t4 : FVec Ideal (⟨2, ![100000, 32]⟩ : Shape) .f32)
    (t5 : FVec Ideal (⟨2, ![1000000, 32]⟩ : Shape) .f32) (t6 : FVec Ideal (⟨2, ![100000, 32]⟩ : Shape) .f32)
    (t7 : FVec Ideal (⟨2, ![1000000, 32]⟩ : Shape) .f32) (r : Fin 16384) : Fin 4 → Fin 32 → EReal
  | 0, k => t4 (ix2 (rowOf 99999 (a0 (ix1 r))) k)
  | 1, k => t5 (ix2 (rowOf 999999 (a1 (ix1 r))) k)
  | 2, k => t6 (ix2 (rowOf 99999 (a2 (ix1 r))) k)
  | 3, k => t7 (ix2 (rowOf 999999 (a3 (ix1 r))) k)

/-- The result at row `r` and column `l`. -/
def result (a0 a1 a2 a3 : IVec (⟨1, ![16384]⟩ : Shape) 32) (t4 : FVec Ideal (⟨2, ![100000, 32]⟩ : Shape) .f32)
    (t5 : FVec Ideal (⟨2, ![1000000, 32]⟩ : Shape) .f32) (t6 : FVec Ideal (⟨2, ![100000, 32]⟩ : Shape) .f32)
    (t7 : FVec Ideal (⟨2, ![1000000, 32]⟩ : Shape) .f32) (W : FVec Ideal (⟨2, ![128, 128]⟩ : Shape) .f32)
    (b g t : FVec Ideal (⟨1, ![128]⟩ : Shape) .f32) (r : Fin 16384) (l : Fin 128) : EReal :=
  normed (lin (embedded a0 a1 a2 a3 t4 t5 t6 t7 r) (fun c k => W (ix2 c k)) fun c => b (ix1 c)) (fun c => g (ix1 c)) (fun c => t (ix1 c)) l

end Cert.KProof
end
-- ==== Proof.Arrays.lean ====
/-
  What the three regions leave in their result arrays, element by element, over the extended reals.
-/
module

public import proofs.«01_k».proof.Proof.Data
public import proofs.«01_k».proof.Proof.Payload
public import Idealize.ShloMosaic.Lib.Pipeline.ArrRel
public import Idealize.ShloMosaic.Lib.Pipeline.ValueKit.Geometry

@[expose] public section

noncomputable section

namespace Cert.KProof

open Cert.KernelIdeal Cert.KernelIdeal.Gen
open Idealize.ShloMosaic Idealize.ShloMosaic.TcCoe
open Idealize.SL Idealize.SL.RA Idealize.SL.Sem
open Idealize.ShloMosaic.Pipeline

variable {U : Type} [URA U]

/-- What every block left in the staging buffer has at every place, every element of the array has. -/
theorem arr_forall (V : Valuation τ sig (Elt Ideal)) (p : Fin 3) (c : Dev nD) (w : Fin (cfgF Ideal p).W)
    {G : Buf (Elt Ideal) (((cfgF Ideal p).win w).arr.view.loc (c.tc : Thread nD τ))}
    (hG : (rdat U V p c).ArrAt w (cfgF Ideal p).N G)
    (P : (((cfgF Ideal p).win w).arr.view.loc (c.tc : Thread nD τ)).2.ty.Idx
      → Elt Ideal (((cfgF Ideal p).win w).arr.view.loc (c.tc : Thread nD τ)).2.ty.elt → Prop)
    (hcov : ((cfgF Ideal p).win w).Covers) (harr : ((cfgF Ideal p).win w).arr.IsWhole)
    (hP : ∀ t X, (rdat U V p c).Leaves w t X → ∀ y : (((cfgF Ideal p).win w).xblock ((cfgF Ideal p).grid.coords t)).Idx,
      P ((((cfgF Ideal p).win w).blk t).view.emb y)
        (_root_.cast (congrArg (Elt Ideal) (((cfgF Ideal p).win w).blk t).view.elt_eq.symm)
          (X (((cfgF Ideal p).win w).xinj ((cfgF Ideal p).grid.coords t) y)))) (i) : P i (G i) := by
  obtain ⟨X, hX, hA⟩ := hG.exists_exact
  let after : (w' : Fin (cfgF Ideal p).W) → Fin (cfgF Ideal p).N → ((cfgF Ideal p).win w').block.Idx → Elt Ideal ((cfgF Ideal p).win w').elt :=
    Function.update (fun _ _ _ => Classical.arbitrary _) w X
  have hw : after w = X := Function.update_self ..
  rw [hA after fun u _ _ => by rw [hw]]
  refine Dat.arrAt_forall_of_covers _ w P hcov (fun t hf y => ?_) i harr
  have : ((rdat U V p c).withAfter after).after w t = X t := congrFun hw t
  rw [this]
  exact hP t (X t) (hX t t.isLt hf) y

/-- What is staged at a place the fetch fills. -/
theorem staged_at (p : Fin 3) (V : Valuation τ sig (Elt Ideal)) (w : Fin (cfgF Ideal p).W) (t : Fin (cfgF Ideal p).N) (d)
    (j : ((cfgF Ideal p).win w).block.Idx) (h : ∀ a, (j a).val < ((cfgF Ideal p).win w).xsize ((cfgF Ideal p).grid.coords t) a) :
    staged p V w t d j = blkOf p V w t (fun a => ⟨(j a).val, h a⟩) := by
  unfold staged Window.fill
  rw [dif_pos ((((cfgF Ideal p).win w).moved_iff _ j).mpr h)]

/-- A 32-row table transposed and widened by zeros to 128 columns. -/
def widened (X : FVec Ideal S32x100000 .f32) (i : Fin 100000) (j : Fin 128) : EReal :=
  if h : j.val < 32 then X (ix2 ⟨j.val, h⟩ i) else 0

theorem covers0 : (win0_1).Covers := by decide +kernel

theorem place0 : ∀ t : Fin grid0.N, win0_0.index t = ![0, t.val] ∧ win0_1.index t = ![t.val, 0]
    ∧ win0_0.xsize (grid0.coords t) 0 = 32 ∧ win0_0.xsize (grid0.coords t) 1 = win0_1.xsize (grid0.coords t) 0 := by decide +kernel

theorem emb0_0 (t : Fin grid0.N) (y : (win0_0.xblock (grid0.coords t)).Idx) :
    ((win0_0.blk t).view.emb y 0 : ℕ) = (y 0).val ∧ ((win0_0.blk t).view.emb y 1 : ℕ) = t.val * 512 + (y 1).val := by
  have e := (place0 t).1
  constructor <;> blk_simp [e]

theorem emb0_1 (t : Fin grid0.N) (y : (win0_1.xblock (grid0.coords t)).Idx) :
    ((win0_1.blk t).view.emb y 0 : ℕ) = t.val * 512 + (y 0).val ∧ ((win0_1.blk t).view.emb y 1 : ℕ) = (y 1).val := by
  have e := (place0 t).2.1
  constructor <;> blk_simp [e]

/-- What region 0 stages of its operand, as far as its result's block reaches. -/
theorem staged0 (V : Valuation τ sig (Elt Ideal)) (t : Fin grid0.N) (d) (k : Fin 32) (r : Fin 512) (i : Fin 100000)
    (hr : r.val < win0_1.xsize (grid0.coords t) 0) (hi : i.val = t.val * 512 + r.val) :
    staged 0 V (0 : Fin 2) t d (ix2 k r : S32x512.Idx) = (V main_v0 : FVec Ideal S32x100000 .f32) (ix2 k i) := by
  obtain ⟨-, -, x0, x1⟩ := place0 t
  have hx : ∀ a : Fin 2, ((ix2 k r : S32x512.Idx) a).val < win0_0.xsize (grid0.coords t) a := by
    intro a
    fin_cases a
    · exact lt_of_lt_of_eq k.isLt x0.symm
    · exact lt_of_lt_of_eq hr x1.symm
  refine (staged_at 0 V (0 : Fin 2) t d _ hx).trans (congrArg (V main_v0) ?_)
  funext a
  fin_cases a <;> apply Fin.ext
  · exact (emb0_0 t _).1
  · exact (emb0_0 t _).2.trans hi.symm

/-- A block of region 0's result is the same block of the widened operand. -/
theorem block0 (V : Valuation τ sig (Elt Ideal)) (t : Fin grid0.N) (d) (y : (win0_1.xblock (grid0.coords t)).Idx)
    (i : Fin 100000) (l : Fin 128) (hi : i.val = t.val * 512 + (y 0).val) (hl : l.val = (y 1).val) :
    k0_pay1 (F := Ideal) (staged 0 V (0 : Fin 2) t d) (win0_1.xinj (grid0.coords t) y) = widened (V main_v0) i l := by
  obtain ⟨r, hr⟩ : ∃ r : Fin 512, r.val = (y 0).val := ⟨win0_1.xinj (grid0.coords t) y 0, rfl⟩
  have hy : (win0_1.xinj (grid0.coords t) y : S512x128.Idx) = ix2 r l := by
    funext a; fin_cases a <;> apply Fin.ext
    · exact hr.symm
    · exact hl.symm
  refine (congrArg (k0_pay1 (F := Ideal) (staged 0 V (0 : Fin 2) t d)) hy).trans ((k0_at _ r l).trans ?_)
  unfold widened
  split
  · exact staged0 V t d _ r i (lt_of_eq_of_lt hr (y 0).isLt) (hi.trans (congrArg (t.val * 512 + ·) hr.symm))
  · rfl

/-- Region 0's array: the operand transposed, zero beyond column 32. -/
theorem arr0 (V : Valuation τ sig (Elt Ideal)) (c : Dev nD) {G : Buf (Elt Ideal) (((cfgF Ideal 0).win 1).arr.view.loc (c.tc : Thread nD τ))}
    (hG : (rdat U V 0 c).ArrAt (1 : Fin 2) (cfgF Ideal 0).N G) (i : S100000x128.Idx) :
    (G : FVec Ideal S100000x128 .f32) i = widened (V main_v0) (i 0) (i 1) := by
  refine arr_forall V 0 c (1 : Fin 2) hG (fun (i : S100000x128.Idx) (v : EReal) => v = widened (V main_v0) (i 0) (i 1))
    (by exact covers0) (by exact Memref.isWhole_whole _) (fun t X hX y => ?_) i
  obtain ⟨Y, -, d, hX⟩ := hX
  subst hX
  exact block0 V t d y _ _ (emb0_1 t y).1 (emb0_1 t y).2

theorem covers1 : (win1_1).Covers := by decide +kernel

theorem place1 : ∀ t : Fin grid1.N, win1_0.index t = ![0, t.val] ∧ win1_1.index t = ![t.val, 0]
    ∧ win1_0.xsize (grid1.coords t) 0 = 32 ∧ win1_0.xsize (grid1.coords t) 1 = win1_1.xsize (grid1.coords t) 0 := by decide +kernel

theorem emb1_0 (t : Fin grid1.N) (y : (win1_0.xblock (grid1.coords t)).Idx) :
    ((win1_0.blk t).view.emb y 0 : ℕ) = (y 0).val ∧ ((win1_0.blk t).view.emb y 1 : ℕ) = t.val * 512 + (y 1).val := by
  have e := (place1 t).1
  constructor <;> blk_simp [e]

theorem emb1_1 (t : Fin grid1.N) (y : (win1_1.xblock (grid1.coords t)).Idx) :
    ((win1_1.blk t).view.emb y 0 : ℕ) = t.val * 512 + (y 0).val ∧ ((win1_1.blk t).view.emb y 1 : ℕ) = (y 1).val := by
  have e := (place1 t).2.1
  constructor <;> blk_simp [e]

/-- What region 1 stages of its operand, as far as its result's block reaches. -/
theorem staged1 (V : Valuation τ sig (Elt Ideal)) (t : Fin grid1.N) (d) (k : Fin 32) (r : Fin 512) (i : Fin 100000)
    (hr : r.val < win1_1.xsize (grid1.coords t) 0) (hi : i.val = t.val * 512 + r.val) :
    staged 1 V (0 : Fin 2) t d (ix2 k r : S32x512.Idx) = (V main_v2 : FVec Ideal S32x100000 .f32) (ix2 k i) := by
  obtain ⟨-, -, x0, x1⟩ := place1 t
  have hx : ∀ a : Fin 2, ((ix2 k r : S32x512.Idx) a).val < win1_0.xsize (grid1.coords t) a := by
    intro a
    fin_cases a
    · exact lt_of_lt_of_eq k.isLt x0.symm
    · exact lt_of_lt_of_eq hr x1.symm
  refine (staged_at 1 V (0 : Fin 2) t d _ hx).trans (congrArg (V main_v2) ?_)
  funext a
  fin_cases a <;> apply Fin.ext
  · exact (emb1_0 t _).1
  · exact (emb1_0 t _).2.trans hi.symm

/-- A block of region 1's result is the same block of the widened operand. -/
theorem block1 (V : Valuation τ sig (Elt Ideal)) (t : Fin grid1.N) (d) (y : (win1_1.xblock (grid1.coords t)).Idx)
    (i : Fin 100000) (l : Fin 128) (hi : i.val = t.val * 512 + (y 0).val) (hl : l.val = (y 1).val) :
    k1_pay1 (F := Ideal) (staged 1 V (0 : Fin 2) t d) (win1_1.xinj (grid1.coords t) y) = widened (V main_v2) i l := by
  obtain ⟨r, hr⟩ : ∃ r : Fin 512, r.val = (y 0).val := ⟨win1_1.xinj (grid1.coords t) y 0, rfl⟩
  have hy : (win1_1.xinj (grid1.coords t) y : S512x128.Idx) = ix2 r l := by
    funext a; fin_cases a <;> apply Fin.ext
    · exact hr.symm
    · exact hl.symm
  refine (congrArg (k1_pay1 (F := Ideal) (staged 1 V (0 : Fin 2) t d)) hy).trans ((((congrFun (k1_eq _) _).trans (k0_at _ r l))).trans ?_)
  unfold widened
  split
  · exact staged1 V t d _ r i (lt_of_eq_of_lt hr (y 0).isLt) (hi.trans (congrArg (t.val * 512 + ·) hr.symm))
  · rfl

/-- Region 1's array: the operand transposed, zero beyond column 32. -/
theorem arr1 (V : Valuation τ sig (Elt Ideal)) (c : Dev nD) {G : Buf (Elt Ideal) (((cfgF Ideal 1).win 1).arr.view.loc (c.tc : Thread nD τ))}
    (hG : (rdat U V 1 c).ArrAt (1 : Fin 2) (cfgF Ideal 1).N G) (i : S100000x128.Idx) :
    (G : FVec Ideal S100000x128 .f32) i = widened (V main_v2) (i 0) (i 1) := by
  refine arr_forall V 1 c (1 : Fin 2) hG (fun (i : S100000x128.Idx) (v : EReal) => v = widened (V main_v2) (i 0) (i 1))
    (by exact covers1) (by exact Memref.isWhole_whole _) (fun t X hX y => ?_) i
  obtain ⟨Y, -, d, hX⟩ := hX
  subst hX
  exact block1 V t d y _ _ (emb1_1 t y).1 (emb1_1 t y).2

/-- The four embeddings of a row, as region 2 finds them. -/
def found (V : Valuation τ sig (Elt Ideal)) (i : Fin 16384) : Fin 4 → Fin 32 → EReal
  | 0, k => (V main_v10 : FVec Ideal S16384x128 .f32) (ix2 i (col 0 k))
  | 1, k => (V main_v25 : FVec Ideal S32x16384 .f32) (ix2 k i)
  | 2, k => (V main_v17 : FVec Ideal S16384x128 .f32) (ix2 i (col 0 k))
  | 3, k => (V main_v33 : FVec Ideal S32x16384 .f32) (ix2 k i)

/-- A row of the kernel's result. -/
def rowAt (V : Valuation τ sig (Elt Ideal)) (i : Fin 16384) : Fin 128 → EReal :=
  normed (lin (found V i) (fun c k => (V main_arg8 : FVec Ideal S128x128 .f32) (ix2 c k)) fun c => (V main_v34 : FVec Ideal S1x128 .f32) (ix2 0 c))
    (fun c => (V main_v35 : FVec Ideal S1x128 .f32) (ix2 0 c)) fun c => (V main_v36 : FVec Ideal S1x128 .f32) (ix2 0 c)

theorem covers2 : (win2_8).Covers := by decide +kernel

theorem place2 : ∀ t : Fin grid2.N, win2_0.index t = ![t.val, 0] ∧ win2_1.index t = ![0, t.val] ∧ win2_2.index t = ![t.val, 0]
    ∧ win2_3.index t = ![0, t.val] ∧ win2_4.index t = ![0, 0] ∧ win2_5.index t = ![0, 0] ∧ win2_6.index t = ![0, 0]
    ∧ win2_7.index t = ![0, 0] ∧ win2_8.index t = ![t.val, 0] := by decide +kernel

theorem emb2_8 (t : Fin grid2.N) (y : (win2_8.xblock (grid2.coords t)).Idx) :
    ((win2_8.blk t).view.emb y 0 : ℕ) = t.val * 1024 + (y 0).val ∧ ((win2_8.blk t).view.emb y 1 : ℕ) = (y 1).val := by
  have e := (place2 t).2.2.2.2.2.2.2.2
  constructor <;> blk_simp [e]

theorem emb2_0 (t : Fin grid2.N) (y : (win2_0.xblock (grid2.coords t)).Idx) :
    ((win2_0.blk t).view.emb y 0 : ℕ) = t.val * 1024 + (y 0).val ∧ ((win2_0.blk t).view.emb y 1 : ℕ) = (y 1).val := by
  have e := (place2 t).1
  constructor <;> blk_simp [e]

theorem staged2_0 (V : Valuation τ sig (Elt Ideal)) (t : Fin grid2.N) (d) (r : Fin 1024) (k : Fin 128) (i : Fin 16384)
    (hi : i.val = t.val * 1024 + r.val) :
    staged 2 V (0 : Fin 9) t d (ix2 r k : S1024x128.Idx) = (V main_v10 : FVec Ideal S16384x128 .f32) (ix2 i k) := by
  refine (staged_at 2 V (0 : Fin 9) t d _ fun a => ((ix2 r k : S1024x128.Idx) a).isLt).trans (congrArg (V main_v10) ?_)
  funext a
  fin_cases a <;> apply Fin.ext
  · exact (emb2_0 t _).1.trans hi.symm
  · exact (emb2_0 t _).2

theorem emb2_2 (t : Fin grid2.N) (y : (win2_2.xblock (grid2.coords t)).Idx) :
    ((win2_2.blk t).view.emb y 0 : ℕ) = t.val * 1024 + (y 0).val ∧ ((win2_2.blk t).view.emb y 1 : ℕ) = (y 1).val := by
  have e := (place2 t).2.2.1
  constructor <;> blk_simp [e]

theorem staged2_2 (V : Valuation τ sig (Elt Ideal)) (t : Fin grid2.N) (d) (r : Fin 1024) (k : Fin 128) (i : Fin 16384)
    (hi : i.val = t.val * 1024 + r.val) :
    staged 2 V (2 : Fin 9) t d (ix2 r k : S1024x128.Idx) = (V main_v17 : FVec Ideal S16384x128 .f32) (ix2 i k) := by
  refine (staged_at 2 V (2 : Fin 9) t d _ fun a => ((ix2 r k : S1024x128.Idx) a).isLt).trans (congrArg (V main_v17) ?_)
  funext a
  fin_cases a <;> apply Fin.ext
  · exact (emb2_2 t _).1.trans hi.symm
  · exact (emb2_2 t _).2

theorem emb2_1 (t : Fin grid2.N) (y : (win2_1.xblock (grid2.coords t)).Idx) :
    ((win2_1.blk t).view.emb y 0 : ℕ) = (y 0).val ∧ ((win2_1.blk t).view.emb y 1 : ℕ) = t.val * 1024 + (y 1).val := by
  have e := (place2 t).2.1
  constructor <;> blk_simp [e]

theorem staged2_1 (V : Valuation τ sig (Elt Ideal)) (t : Fin grid2.N) (d) (k : Fin 32) (r : Fin 1024) (i : Fin 16384)
    (hi : i.val = t.val * 1024 + r.val) :
    staged 2 V (1 : Fin 9) t d (ix2 k r : S32x1024.Idx) = (V main_v25 : FVec Ideal S32x16384 .f32) (ix2 k i) := by
  refine (staged_at 2 V (1 : Fin 9) t d _ fun a => ((ix2 k r : S32x1024.Idx) a).isLt).trans (congrArg (V main_v25) ?_)
  funext a
  fin_cases a <;> apply Fin.ext
  · exact (emb2_1 t _).1
  · exact (emb2_1 t _).2.trans hi.symm

theorem emb2_3 (t : Fin grid2.N) (y : (win2_3.xblock (grid2.coords t)).Idx) :
    ((win2_3.blk t).view.emb y 0 : ℕ) = (y 0).val ∧ ((win2_3.blk t).view.emb y 1 : ℕ) = t.val * 1024 + (y 1).val := by
  have e := (place2 t).2.2.2.1
  constructor <;> blk_simp [e]

theorem staged2_3 (V : Valuation τ sig (Elt Ideal)) (t : Fin grid2.N) (d) (k : Fin 32) (r : Fin 1024) (i : Fin 16384)
    (hi : i.val = t.val * 1024 + r.val) :
    staged 2 V (3 : Fin 9) t d (ix2 k r : S32x1024.Idx) = (V main_v33 : FVec Ideal S32x16384 .f32) (ix2 k i) := by
  refine (staged_at 2 V (3 : Fin 9) t d _ fun a => ((ix2 k r : S32x1024.Idx) a).isLt).trans (congrArg (V main_v33) ?_)
  funext a
  fin_cases a <;> apply Fin.ext
  · exact (emb2_3 t _).1
  · exact (emb2_3 t _).2.trans hi.symm

theorem emb2_4 (t : Fin grid2.N) (y : (win2_4.xblock (grid2.coords t)).Idx) :
    ((win2_4.blk t).view.emb y 0 : ℕ) = (y 0).val ∧ ((win2_4.blk t).view.emb y 1 : ℕ) = (y 1).val := by
  have e := (place2 t).2.2.2.2.1
  constructor <;> blk_simp [e]

theorem staged2_4 (V : Valuation τ sig (Elt Ideal)) (t : Fin grid2.N) (d) (j : S128x128.Idx) :
    staged 2 V (4 : Fin 9) t d j = (V main_arg8 : FVec Ideal S128x128 .f32) j := by
  refine (staged_at 2 V (4 : Fin 9) t d j fun a => (j a).isLt).trans (congrArg (V main_arg8) ?_)
  funext a
  fin_cases a <;> apply Fin.ext
  · exact (emb2_4 t _).1
  · exact (emb2_4 t _).2

theorem emb2_5 (t : Fin grid2.N) (y : (win2_5.xblock (grid2.coords t)).Idx) :
    ((win2_5.blk t).view.emb y 0 : ℕ) = (y 0).val ∧ ((win2_5.blk t).view.emb y 1 : ℕ) = (y 1).val := by
  have e := (place2 t).2.2.2.2.2.1
  constructor <;> blk_simp [e]

theorem staged2_5 (V : Valuation τ sig (Elt Ideal)) (t : Fin grid2.N) (d) (j : S1x128.Idx) :
    staged 2 V (5 : Fin 9) t d j = (V main_v34 : FVec Ideal S1x128 .f32) j := by
  refine (staged_at 2 V (5 : Fin 9) t d j fun a => (j a).isLt).trans (congrArg (V main_v34) ?_)
  funext a
  fin_cases a <;> apply Fin.ext
  · exact (emb2_5 t _).1
  · exact (emb2_5 t _).2

theorem emb2_6 (t : Fin grid2.N) (y : (win2_6.xblock (grid2.coords t)).Idx) :
    ((win2_6.blk t).view.emb y 0 : ℕ) = (y 0).val ∧ ((win2_6.blk t).view.emb y 1 : ℕ) = (y 1).val := by
  have e := (place2 t).2.2.2.2.2.2.1
  constructor <;> blk_simp [e]

theorem staged2_6 (V : Valuation τ sig (Elt Ideal)) (t : Fin grid2.N) (d) (j : S1x128.Idx) :
    staged 2 V (6 : Fin 9) t d j = (V main_v35 : FVec Ideal S1x128 .f32) j := by
  refine (staged_at 2 V (6 : Fin 9) t d j fun a => (j a).isLt).trans (congrArg (V main_v35) ?_)
  funext a
  fin_cases a <;> apply Fin.ext
  · exact (emb2_6 t _).1
  · exact (emb2_6 t _).2

theorem emb2_7 (t : Fin grid2.N) (y : (win2_7.xblock (grid2.coords t)).Idx) :
    ((win2_7.blk t).view.emb y 0 : ℕ) = (y 0).val ∧ ((win2_7.blk t).view.emb y 1 : ℕ) = (y 1).val := by
  have e := (place2 t).2.2.2.2.2.2.2.1
  constructor <;> blk_simp [e]

theorem staged2_7 (V : Valuation τ sig (Elt Ideal)) (t : Fin grid2.N) (d) (j : S1x128.Idx) :
    staged 2 V (7 : Fin 9) t d j = (V main_v36 : FVec Ideal S1x128 .f32) j := by
  refine (staged_at 2 V (7 : Fin 9) t d j fun a => (j a).isLt).trans (congrArg (V main_v36) ?_)
  funext a
  fin_cases a <;> apply Fin.ext
  · exact (emb2_7 t _).1
  · exact (emb2_7 t _).2

/-- A block of region 2's result is the same block of rows. -/
theorem block2 (V : Valuation τ sig (Elt Ideal)) (t : Fin grid2.N) (d0 d1 d2 d3 d4 d5 d6 d7) (y : (win2_8.xblock (grid2.coords t)).Idx)
    (i : Fin 16384) (l : Fin 128) (hi : i.val = t.val * 1024 + (y 0).val) (hl : l.val = (y 1).val) :
    dense (F := Ideal) (staged 2 V (0 : Fin 9) t d0) (staged 2 V (1 : Fin 9) t d1) (staged 2 V (2 : Fin 9) t d2) (staged 2 V (3 : Fin 9) t d3)
        (staged 2 V (4 : Fin 9) t d4) (staged 2 V (5 : Fin 9) t d5) (staged 2 V (6 : Fin 9) t d6) (staged 2 V (7 : Fin 9) t d7)
        (win2_8.xinj (grid2.coords t) y)
      = rowAt V i l := by
  obtain ⟨r, hr⟩ : ∃ r : Fin 1024, r.val = (y 0).val := ⟨win2_8.xinj (grid2.coords t) y 0, rfl⟩
  have hy : (win2_8.xinj (grid2.coords t) y : S1024x128.Idx) = ix2 r l := by
    funext a; fin_cases a <;> apply Fin.ext
    · exact hr.symm
    · exact hl.symm
  have hi' : i.val = t.val * 1024 + r.val := hi.trans (congrArg (t.val * 1024 + ·) hr.symm)
  refine (congrArg _ hy).trans ((dense_at _ _ _ _ _ _ _ _ (found V i) r (fun k => staged2_0 V t d0 r _ i hi')
    (fun k => staged2_1 V t d1 k r i hi') (fun k => staged2_2 V t d2 r _ i hi') (fun k => staged2_3 V t d3 k r i hi') l).trans ?_)
  unfold rowAt
  congr 1
  · congr 1
    · funext c k; exact staged2_4 V t d4 _
    · funext c; exact staged2_5 V t d5 _
  · funext c; exact staged2_6 V t d6 _
  · funext c; exact staged2_7 V t d7 _

/-- Region 2's array. -/
theorem arr2 (V : Valuation τ sig (Elt Ideal)) (c : Dev nD) {G : Buf (Elt Ideal) (((cfgF Ideal 2).win 8).arr.view.loc (c.tc : Thread nD τ))}
    (hG : (rdat U V 2 c).ArrAt (8 : Fin 9) (cfgF Ideal 2).N G) (i : S16384x128.Idx) :
    (G : FVec Ideal S16384x128 .f32) i = rowAt V (i 0) (i 1) := by
  refine arr_forall V 2 c (8 : Fin 9) hG (fun (i : S16384x128.Idx) (v : EReal) => v = rowAt V (i 0) (i 1))
    (by exact covers2) (by exact Memref.isWhole_whole _) (fun t X hX y => ?_) i
  obtain ⟨Y, -, d0, d1, d2, d3, d4, d5, d6, d7, hX⟩ := hX
  subst hX
  exact block2 V t d0 d1 d2 d3 d4 d5 d6 d7 y _ _ (emb2_8 t y).1 (emb2_8 t y).2

end Cert.KProof
end
-- ==== Proof.Host.lean ====
/-
  The kernel's buffers between the regions, at an index, over the extended reals.
-/
module

public import proofs.«01_k».proof.Proof.Spec
public import proofs.«01_k».proof.Proof.Arrays
public import proofs.«01_k».proof.Proof.Frame
public import Idealize.ShloMosaic.Lib.StableHlo.ReadAt
public import Idealize.ShloMosaic.Lib.Tactic.WordOmega

@[expose] public section

noncomputable section

namespace Cert.KProof

open Cert.KernelIdeal Cert.KernelIdeal.Gen
open Idealize.ShloMosaic Idealize.ShloMosaic.TcCoe
open Idealize.SL.Sem
open Idealize.ShloMosaic.Pipeline

variable (V : Valuation τ sig (Elt Ideal)) (m : (ℓ : Loc nD τ sig) → Buf (Elt Ideal) ℓ) (outs : Outs (F := Ideal)) (c : Dev nD)

theorem host0 (k : Fin 32) (i : Fin 100000) :
    (StableHlo.after hostOps0 V main_v0 : FVec Ideal S32x100000 .f32) (ix2 k i) = (V main_arg4 : FVec Ideal S100000x32 .f32) (ix2 i k) := by
  after_reads_at

theorem host1 (k : Fin 32) (i : Fin 100000) :
    (StableHlo.after hostOps1 V main_v2 : FVec Ideal S32x100000 .f32) (ix2 k i) = (V main_arg6 : FVec Ideal S100000x32 .f32) (ix2 i k) := by
  after_reads_at

theorem host34 (k : Fin 128) :
    (StableHlo.after hostOps2 V main_v34 : FVec Ideal S1x128 .f32) (ix2 0 k) = (V main_arg9 : FVec Ideal S128 .f32) (ix1 k) := by
  after_reads_at

theorem host35 (k : Fin 128) :
    (StableHlo.after hostOps2 V main_v35 : FVec Ideal S1x128 .f32) (ix2 0 k) = (V main_arg10 : FVec Ideal S128 .f32) (ix1 k) := by
  after_reads_at

theorem host36 (k : Fin 128) :
    (StableHlo.after hostOps2 V main_v36 : FVec Ideal S1x128 .f32) (ix2 0 k) = (V main_arg11 : FVec Ideal S128 .f32) (ix1 k) := by
  after_reads_at

theorem host10 (r : Fin 16384) (k : Fin 128) (h : 0 ≤ ((V main_arg0 : IVec S16384 32) (ix1 r)).toInt) :
    (StableHlo.after hostOps2 V main_v10 : FVec Ideal S16384x128 .f32) (ix2 r k)
      = (V main_v1 : FVec Ideal S100000x128 .f32) (ix2 (rowOf 99999 ((V main_arg0 : IVec S16384 32) (ix1 r))) k) := by
  after_reads_at
  refine (gather_small _ _ r k).trans ?_
  pointwise
  rw [wrap_eq _ _ h]

theorem host17 (r : Fin 16384) (k : Fin 128) (h : 0 ≤ ((V main_arg2 : IVec S16384 32) (ix1 r)).toInt) :
    (StableHlo.after hostOps2 V main_v17 : FVec Ideal S16384x128 .f32) (ix2 r k)
      = (V main_v3 : FVec Ideal S100000x128 .f32) (ix2 (rowOf 99999 ((V main_arg2 : IVec S16384 32) (ix1 r))) k) := by
  after_reads_at
  refine (gather_small _ _ r k).trans ?_
  pointwise
  rw [wrap_eq _ _ h]

theorem host25 (r : Fin 16384) (k : Fin 32) (h : 0 ≤ ((V main_arg1 : IVec S16384 32) (ix1 r)).toInt) :
    (StableHlo.after hostOps2 V main_v25 : FVec Ideal S32x16384 .f32) (ix2 k r)
      = (V main_arg5 : FVec Ideal S1000000x32 .f32) (ix2 (rowOf 999999 ((V main_arg1 : IVec S16384 32) (ix1 r))) k) := by
  after_reads_at
  refine (gather_large _ _ r k).trans ?_
  pointwise
  rw [wrap_eq _ _ h]

theorem host33 (r : Fin 16384) (k : Fin 32) (h : 0 ≤ ((V main_arg3 : IVec S16384 32) (ix1 r)).toInt) :
    (StableHlo.after hostOps2 V main_v33 : FVec Ideal S32x16384 .f32) (ix2 k r)
      = (V main_arg7 : FVec Ideal S1000000x32 .f32) (ix2 (rowOf 999999 ((V main_arg3 : IVec S16384 32) (ix1 r))) k) := by
  after_reads_at
  refine (gather_large _ _ r k).trans ?_
  pointwise
  rw [wrap_eq _ _ h]

theorem at_arg (r : Ref sig .tc) (h5 : r ∉ hostOps2_W) (h6 : r ∉ ([main_v37] : List (Ref sig .tc)))
    (h : V6 m outs c r = m ((c : Thread nD τ).loc r)) : V4 m outs c r = m ((c : Thread nD τ).loc r) :=
  (V5_of m outs c r h5).symm.trans ((V6_of m outs c r h6).symm.trans h)

theorem arg0_at : V4 m outs c main_arg0 = m ((c : Thread nD τ).loc main_arg0) :=
  at_arg m outs c main_arg0 (by decide) (by decide) (V6_main_arg0 m outs c)

theorem arg1_at : V4 m outs c main_arg1 = m ((c : Thread nD τ).loc main_arg1) :=
  at_arg m outs c main_arg1 (by decide) (by decide) (V6_main_arg1 m outs c)

theorem arg2_at : V4 m outs c main_arg2 = m ((c : Thread nD τ).loc main_arg2) :=
  at_arg m outs c main_arg2 (by decide) (by decide) (V6_main_arg2 m outs c)

theorem arg3_at : V4 m outs c main_arg3 = m ((c : Thread nD τ).loc main_arg3) :=
  at_arg m outs c main_arg3 (by decide) (by decide) (V6_main_arg3 m outs c)

theorem arg5_at : V4 m outs c main_arg5 = m ((c : Thread nD τ).loc main_arg5) :=
  at_arg m outs c main_arg5 (by decide) (by decide) (V6_main_arg5 m outs c)

theorem arg7_at : V4 m outs c main_arg7 = m ((c : Thread nD τ).loc main_arg7) :=
  at_arg m outs c main_arg7 (by decide) (by decide) (V6_main_arg7 m outs c)

theorem arg9_at : V4 m outs c main_arg9 = m ((c : Thread nD τ).loc main_arg9) :=
  at_arg m outs c main_arg9 (by decide) (by decide) (V6_main_arg9 m outs c)

theorem arg10_at : V4 m outs c main_arg10 = m ((c : Thread nD τ).loc main_arg10) :=
  at_arg m outs c main_arg10 (by decide) (by decide) (V6_main_arg10 m outs c)

theorem arg11_at : V4 m outs c main_arg11 = m ((c : Thread nD τ).loc main_arg11) :=
  at_arg m outs c main_arg11 (by decide) (by decide) (V6_main_arg11 m outs c)

theorem arg8_at : V5 m outs c main_arg8 = m ((c : Thread nD τ).loc main_arg8) := (V6_of m outs c main_arg8 (by decide)).symm.trans (V6_main_arg8 m outs c)

theorem arg6_at : V2 m outs c main_arg6 = m ((c : Thread nD τ).loc main_arg6) :=
  (V3_of m outs c main_arg6 (by decide)).symm.trans ((V4_of m outs c main_arg6 (by decide)).symm.trans
    (at_arg m outs c main_arg6 (by decide) (by decide) (V6_main_arg6 m outs c)))

theorem v3_at : V4 m outs c main_v3 = outs 4 main_v3 c := Function.update_self ..

theorem v1_at : V4 m outs c main_v1 = outs 2 main_v1 c :=
  (V4_of m outs c main_v1 (by decide)).trans ((V3_of m outs c main_v1 (by decide)).trans (Function.update_self ..))

theorem col_lt (k : Fin 32) : (col 0 k).val < 32 := by simp [col]

theorem col_zero (k : Fin 32) : (⟨(col 0 k).val, col_lt k⟩ : Fin 32) = k := Fin.ext (by simp [col])

/-- A widened table's leading columns. -/
theorem widened_at (X : FVec Ideal S32x100000 .f32) (i : Fin 100000) (k : Fin 32) : widened X i (col 0 k) = X (ix2 k i) := by
  unfold widened
  rw [dif_pos (col_lt k), col_zero]

theorem gathered0 (hL : Left m outs c) (r : Fin 16384) (k : Fin 32)
    (h : 0 ≤ ((m ((c : Thread nD τ).loc main_arg0) : IVec S16384 32) (ix1 r)).toInt) :
    (V5 m outs c main_v10 : FVec Ideal S16384x128 .f32) (ix2 r (col 0 k))
      = (m ((c : Thread nD τ).loc main_arg4) : FVec Ideal S100000x32 .f32) (ix2 (rowOf 99999 ((m ((c : Thread nD τ).loc main_arg0) : IVec S16384 32) (ix1 r))) k) := by
  rw [← arg0_at m outs c] at h ⊢
  refine (host10 (V4 m outs c) r (col 0 k) h).trans ?_
  rw [v1_at]
  exact (arr0 (V1 m c) c hL.r0 _).trans ((widened_at _ _ k).trans (host0 (V0 m c) k _))

theorem gathered1 (r : Fin 16384) (k : Fin 32) (h : 0 ≤ ((m ((c : Thread nD τ).loc main_arg1) : IVec S16384 32) (ix1 r)).toInt) :
    (V5 m outs c main_v25 : FVec Ideal S32x16384 .f32) (ix2 k r)
      = (m ((c : Thread nD τ).loc main_arg5) : FVec Ideal S1000000x32 .f32) (ix2 (rowOf 999999 ((m ((c : Thread nD τ).loc main_arg1) : IVec S16384 32) (ix1 r))) k) := by
  rw [← arg1_at m outs c] at h ⊢
  rw [← arg5_at m outs c]
  exact host25 (V4 m outs c) r k h

theorem gathered2 (hL : Left m outs c) (r : Fin 16384) (k : Fin 32)
    (h : 0 ≤ ((m ((c : Thread nD τ).loc main_arg2) : IVec S16384 32) (ix1 r)).toInt) :
    (V5 m outs c main_v17 : FVec Ideal S16384x128 .f32) (ix2 r (col 0 k))
      = (m ((c : Thread nD τ).loc main_arg6) : FVec Ideal S100000x32 .f32) (ix2 (rowOf 99999 ((m ((c : Thread nD τ).loc main_arg2) : IVec S16384 32) (ix1 r))) k) := by
  rw [← arg2_at m outs c] at h ⊢
  rw [← arg6_at m outs c]
  refine (host17 (V4 m outs c) r (col 0 k) h).trans ?_
  rw [v3_at]
  exact (arr1 (V3 m outs c) c hL.r1 _).trans ((widened_at _ _ k).trans (host1 (V2 m outs c) k _))

theorem gathered3 (r : Fin 16384) (k : Fin 32) (h : 0 ≤ ((m ((c : Thread nD τ).loc main_arg3) : IVec S16384 32) (ix1 r)).toInt) :
    (V5 m outs c main_v33 : FVec Ideal S32x16384 .f32) (ix2 k r)
      = (m ((c : Thread nD τ).loc main_arg7) : FVec Ideal S1000000x32 .f32) (ix2 (rowOf 999999 ((m ((c : Thread nD τ).loc main_arg3) : IVec S16384 32) (ix1 r))) k) := by
  rw [← arg3_at m outs c] at h ⊢
  rw [← arg7_at m outs c]
  exact host33 (V4 m outs c) r k h

/-- The kernel's result, from the launched arguments. -/
theorem kernel_at (hL : Left m outs c)
    (h0 : ∀ r : Fin 16384, 0 ≤ ((m ((c : Thread nD τ).loc main_arg0) : IVec S16384 32) (ix1 r)).toInt)
    (h1 : ∀ r : Fin 16384, 0 ≤ ((m ((c : Thread nD τ).loc main_arg1) : IVec S16384 32) (ix1 r)).toInt)
    (h2 : ∀ r : Fin 16384, 0 ≤ ((m ((c : Thread nD τ).loc main_arg2) : IVec S16384 32) (ix1 r)).toInt)
    (h3 : ∀ r : Fin 16384, 0 ≤ ((m ((c : Thread nD τ).loc main_arg3) : IVec S16384 32) (ix1 r)).toInt)
    (r : Fin 16384) (l : Fin 128) :
    (V6 m outs c main_v37 : FVec Ideal S16384x128 .f32) (ix2 r l)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) r l := by
  have b37 : V6 m outs c main_v37 = outs 6 main_v37 c := Function.update_self ..
  refine (congrFun b37 _).trans ((arr2 (V5 m outs c) c hL.r2 (ix2 r l)).trans ?_)
  have hf : found (V5 m outs c) r = embedded (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r := by
    funext q k
    fin_cases q
    · exact gathered0 m outs c hL r k (h0 r)
    · exact gathered1 m outs c r k (h1 r)
    · exact gathered2 m outs c hL r k (h2 r)
    · exact gathered3 m outs c r k (h3 r)
  have hb : (fun k => (V5 m outs c main_v34 : FVec Ideal S1x128 .f32) (ix2 0 k)) = fun k => (m ((c : Thread nD τ).loc main_arg9) : FVec Ideal S128 .f32) (ix1 k) := by
    rw [← arg9_at m outs c]; exact funext (host34 (V4 m outs c))
  have hg : (fun k => (V5 m outs c main_v35 : FVec Ideal S1x128 .f32) (ix2 0 k)) = fun k => (m ((c : Thread nD τ).loc main_arg10) : FVec Ideal S128 .f32) (ix1 k) := by
    rw [← arg10_at m outs c]; exact funext (host35 (V4 m outs c))
  have ht : (fun k => (V5 m outs c main_v36 : FVec Ideal S1x128 .f32) (ix2 0 k)) = fun k => (m ((c : Thread nD τ).loc main_arg11) : FVec Ideal S128 .f32) (ix1 k) := by
    rw [← arg11_at m outs c]; exact funext (host36 (V4 m outs c))
  show rowAt (V5 m outs c) r l = _
  unfold rowAt result
  rw [hf, hb, hg, ht, arg8_at]

end Cert.KProof
end
-- ==== Proof.Reference.lean ====
/-
  The reference's result at an index, over the extended reals.
-/
module

public import proofs.«01_k».proof.Proof.Spec
public import proofs.«01_k».proof.Proof.Gen.ReferenceIdeal.Run
public import Idealize.ShloMosaic.Lib.Pointwise
public import Idealize.ShloMosaic.Lib.IdealHost

@[expose] public section

noncomputable section

namespace Cert.KProof.Ref

open Cert.ReferenceIdeal Cert.ReferenceIdeal.Gen Cert.ReferenceIdeal.Value
open Idealize.ShloMosaic Idealize.ShloMosaic.TcCoe

/-- The start indices of a gather: the index, a negative one shifted by the table's height. -/
def starts (n : BitVec 32) (a : IVec S16384 32) : IVec S16384x1 32 :=
  broadcastInDim S16384x1 ![0] bcast_S16384_S16384x1_0 (select (cmpi .slt a (broadcastInDim S16384 ![] bcast_S_S16384 (constantI S_ 32 0#32)))
    (addi a (broadcastInDim S16384 ![] bcast_S_S16384 (constantI S_ 32 n))) a)

/-- Whether the start indices lie in the table. -/
def within (last : BitVec 32) (i : IVec S16384x1 32) : IVec S16384 1 :=
  Host.reduce IntOp.andi (andi (cmpi .sge i (broadcastInDim S16384x1 ![] bcast_S_S16384x1 (constantI S_ 32 0#32)))
    (cmpi .sle i (broadcastInDim S16384x1 ![0, 1] bcast_S1x1_S16384x1_0_1 (broadcastInDim S1x1 ![1] bcast_S1_S1x1_1 (constantI S1 32 last)))))
    (constantI S_ 1 1#1) reducesTo_S16384x1_S16384_d1 h_S_

/-- The gathered rows: the fill value out of range, zero at the padding index. -/
def kept (w : IVec S16384 1) (x : FVec Ideal S16384x32 .f32) (a : IVec S16384 32) : FVec Ideal S16384x32 .f32 :=
  mulf (select (broadcastInDim S16384x32 ![0] bcast_S16384_S16384x32_0 w) x (broadcastInDim S16384x32 ![] bcast_S_S16384x32 (constant S_ .f32 0x7FC00000#32)))
    (broadcastInDim S16384x32 ![0, 1] bcast_S16384x1_S16384x32_0_1
      (uitofp .f32 (broadcastInDim S16384x1 ![0] bcast_S16384_S16384x1_0 (cmpi .ne a (broadcastInDim S16384 ![] bcast_S_S16384 (constantI S_ 32 0#32))))))

/-- The rows of a small table. -/
def small (t : FVec Ideal S100000x32 .f32) (a : IVec S16384 32) : FVec Ideal S16384x32 .f32 :=
  kept (within 99999#32 (starts 100000#32 a)) (Host.gather gather_S100000x32_S16384x1_S16384x32_1_0_n_n_0_1_132 t (starts 100000#32 a)) a

/-- The rows of a large table. -/
def large (t : FVec Ideal S1000000x32 .f32) (a : IVec S16384 32) : FVec Ideal S16384x32 .f32 :=
  kept (within 999999#32 (starts 1000000#32 a)) (Host.gather gather_S1000000x32_S16384x1_S16384x32_1_0_n_n_0_1_132 t (starts 1000000#32 a)) a

/-- The dense layer. -/
def layer (e0 e1 e2 e3 : FVec Ideal S16384x32 .f32) (W : FVec Ideal S128x128 .f32) (b : FVec Ideal S128 .f32) : FVec Ideal S16384x128 .f32 :=
  addf (Host.dotGeneral dot_S16384x128_S128x128_S16384x128_1_0_0_1_n_n none
      (concatenate S16384x128 1 [⟨S16384x32, e0⟩, ⟨S16384x32, e1⟩, ⟨S16384x32, e2⟩, ⟨S16384x32, e3⟩]
        concatenates_S16384x32_S16384x32_S16384x32_S16384x32_S16384x128_d1) (transpose S128x128 [1, 0] W transposes_S128x128_S128x128_1_0))
    (broadcastInDim S16384x128 ![0, 1] bcast_S1x128_S16384x128_0_1 (broadcastInDim S1x128 ![1] bcast_S128_S1x128_1 b))

/-- Row means, as a column. -/
def means (x : FVec Ideal S16384x128 .f32) : FVec Ideal S16384x1 .f32 :=
  Host.divf (broadcastInDim S16384x1 ![0] bcast_S16384_S16384x1_0 (Host.reduceAdd x (constant S_ .f32 0x00000000#32) reducesTo_S16384x128_S16384_d1 h_S_))
    (broadcastInDim S16384x1 ![] bcast_S_S16384x1 (constant S_ .f32 0x43000000#32))

/-- Rows less their means. -/
def centred (x : FVec Ideal S16384x128 .f32) : FVec Ideal S16384x128 .f32 :=
  subf x (broadcastInDim S16384x128 ![0, 1] bcast_S16384x1_S16384x128_0_1 (means x))

/-- Rows normalised, scaled and shifted. -/
def scaled (x : FVec Ideal S16384x128 .f32) (g t : FVec Ideal S128 .f32) : FVec Ideal S16384x128 .f32 :=
  addf (mulf (Host.divf (centred x) (broadcastInDim S16384x128 ![0, 1] bcast_S16384x1_S16384x128_0_1
        (Host.sqrt (addf (means (mulf (centred x) (centred x))) (broadcastInDim S16384x1 ![] bcast_S_S16384x1 (constant S_ .f32 0x3727C5AC#32))))))
      (broadcastInDim S16384x128 ![0, 1] bcast_S1x128_S16384x128_0_1 (broadcastInDim S1x128 ![1] bcast_S128_S1x128_1 g)))
    (broadcastInDim S16384x128 ![0, 1] bcast_S1x128_S16384x128_0_1 (broadcastInDim S1x128 ![1] bcast_S128_S1x128_1 t))

/-- The reference's result is these stages. -/
theorem stages (m : (ℓ : Loc nD τ sig) → Buf (Elt Ideal) ℓ) (c : Dev nD) :
    res_main_v57 (F := Ideal) m c = scaled (layer
      (small (m ((c.tc : Thread nD τ).loc main_arg4)) (m ((c.tc : Thread nD τ).loc main_arg0)))
      (large (m ((c.tc : Thread nD τ).loc main_arg5)) (m ((c.tc : Thread nD τ).loc main_arg1)))
      (small (m ((c.tc : Thread nD τ).loc main_arg6)) (m ((c.tc : Thread nD τ).loc main_arg2)))
      (large (m ((c.tc : Thread nD τ).loc main_arg7)) (m ((c.tc : Thread nD τ).loc main_arg3)))
      (m ((c.tc : Thread nD τ).loc main_arg8)) (m ((c.tc : Thread nD τ).loc main_arg9)))
      (m ((c.tc : Thread nD τ).loc main_arg10)) (m ((c.tc : Thread nD τ).loc main_arg11)) := rfl

theorem means_at (x : FVec Ideal S16384x128 .f32) (r : Fin 16384) : means x (ix2 r 0) = mean fun c => x (ix2 r c) := by
  pointwise [means]
  rfl

theorem centred_at (x : FVec Ideal S16384x128 .f32) (r : Fin 16384) (c : Fin 128) :
    centred x (ix2 r c) = x (ix2 r c) - mean fun c => x (ix2 r c) := by
  pointwise [centred]
  rw [means_at]

theorem layer_at (e0 e1 e2 e3 : FVec Ideal S16384x32 .f32) (W : FVec Ideal S128x128 .f32) (b : FVec Ideal S128 .f32) (r : Fin 16384)
    (e : Fin 4 → Fin 32 → EReal) (h0 : ∀ k, e0 (ix2 r k) = e 0 k) (h1 : ∀ k, e1 (ix2 r k) = e 1 k) (h2 : ∀ k, e2 (ix2 r k) = e 2 k)
    (h3 : ∀ k, e3 (ix2 r k) = e 3 k) (c : Fin 128) :
    layer e0 e1 e2 e3 W b (ix2 r c) = lin e (fun c k => W (ix2 c k)) (fun c => b (ix1 c)) c := by
  pointwise [layer]
  rw [sum_runs]
  simp only [h0, h1, h2, h3]
  have r0 : ∀ k : Fin 32, (col 0 k).val = k.val := fun k => by simp [col]
  have r1 : ∀ k : Fin 32, (col 1 k).val = 32 + k.val := fun k => by simp [col]
  have r2 : ∀ k : Fin 32, (col 2 k).val = 64 + k.val := fun k => by simp [col]
  have r3 : ∀ k : Fin 32, (col 3 k).val = 96 + k.val := fun k => by simp [col]
  unfold lin
  have s0 : ∀ k : Fin 32, k.val < 32 := fun k => k.isLt
  have n1 : ∀ k : Fin 32, ¬ 32 + k.val < 32 := fun k => by omega
  have n2 : ∀ k : Fin 32, ¬ 64 + k.val < 32 := fun k => by omega
  have m2 : ∀ k : Fin 32, ¬ 64 + k.val - 32 < 32 := fun k => by omega
  have n3 : ∀ k : Fin 32, ¬ 96 + k.val < 32 := fun k => by omega
  have m3 : ∀ k : Fin 32, ¬ 96 + k.val - 32 < 32 := fun k => by omega
  have p3 : ∀ k : Fin 32, ¬ 96 + k.val - 32 - 32 < 32 := fun k => by omega
  have q1 : ∀ k : Fin 32, 32 + k.val - 32 = k.val := fun k => by omega
  have q2 : ∀ k : Fin 32, 64 + k.val - 32 - 32 = k.val := fun k => by omega
  have q3 : ∀ k : Fin 32, 96 + k.val - 32 - 32 - 32 = k.val := fun k => by omega
  simp only [r0, r1, r2, r3, n1, n2, m2, n3, m3, p3, q1, q2, q3, s0, dif_pos, dif_neg, not_false_eq_true]
  ac_rfl

theorem within_at (last : BitVec 32) (i : IVec S16384x1 32) (r : Fin 16384) (h0 : 0 ≤ (i (ix2 r 0)).toInt) (h1 : (i (ix2 r 0)).toInt ≤ last.toInt) :
    within last i (ix1 r) = 1#1 := by
  pointwise [within]
  have a : IntOp.cmpi CmpIPredicate.sge (i (ix2 r 0)) 0#32 = 1#1 := IntOp.cmpi_sge.mpr (by simpa using h0)
  have b : IntOp.cmpi CmpIPredicate.sle (i (ix2 r 0)) last = 1#1 := IntOp.cmpi_sle.mpr h1
  rw [Finset.univ_unique, Finset.fold_singleton]
  show IntOp.andi (IntOp.andi (IntOp.cmpi CmpIPredicate.sge (i (ix2 r 0)) 0#32) (IntOp.cmpi CmpIPredicate.sle (i (ix2 r 0)) last)) 1#1 = 1#1
  rw [a, b]; rfl

theorem kept_at (w : IVec S16384 1) (x : FVec Ideal S16384x32 .f32) (a : IVec S16384 32) (r : Fin 16384) (k : Fin 32) (hw : w (ix1 r) = 1#1)
    (hx : a (ix1 r) = 0#32 → x (ix2 r k) = 0) : kept w x a (ix2 r k) = x (ix2 r k) := by
  pointwise [kept]
  rw [hw]
  show x (ix2 r k) * _ = _
  by_cases h : a (ix1 r) = 0#32
  · rw [hx h, zero_mul]
  · have : IntOp.cmpi CmpIPredicate.ne (a (ix1 r)) 0#32 = 1#1 := IntOp.cmpi_ne.mpr h
    rw [this]
    have : (FloatOps.uitofp (F := Ideal) FTy.f32 1#1 : EReal) = 1 := by
      show ((((1#1).toNat : ℝ)) : EReal) = 1
      simp
    rw [this, mul_one]

theorem starts_at (n : BitVec 32) (a : IVec S16384 32) (r : Fin 16384) (h : 0 ≤ (a (ix1 r)).toInt) : starts n a (ix2 r 0) = a (ix1 r) := by
  pointwise [starts]
  exact wrap_eq _ _ h

/-- Index zero names row zero. -/
theorem rowOf_zero (n : Nat) : rowOf n 0#32 = 0 := by
  unfold rowOf
  apply Fin.ext
  simp

theorem small_at (t : FVec Ideal S100000x32 .f32) (a : IVec S16384 32) (r : Fin 16384) (k : Fin 32) (h0 : 0 ≤ (a (ix1 r)).toInt)
    (h1 : (a (ix1 r)).toInt < 100000) (ht : ∀ k, t (ix2 0 k) = 0) :
    small t a (ix2 r k) = t (ix2 (rowOf 99999 (a (ix1 r))) k) := by
  have hg : Host.gather gather_S100000x32_S16384x1_S16384x32_1_0_n_n_0_1_132 t (starts 100000#32 a) (ix2 r k) = t (ix2 (rowOf 99999 (a (ix1 r))) k) := by
    rw [gather_ref_small, starts_at _ _ _ h0]
  unfold small
  rw [kept_at, hg]
  · exact within_at _ _ _ (by rw [starts_at _ _ _ h0]; exact h0) (by rw [starts_at _ _ _ h0]; exact Int.le_of_lt_add_one h1)
  · intro h; rw [hg, h, rowOf_zero]; exact ht k

theorem large_at (t : FVec Ideal S1000000x32 .f32) (a : IVec S16384 32) (r : Fin 16384) (k : Fin 32) (h0 : 0 ≤ (a (ix1 r)).toInt)
    (h1 : (a (ix1 r)).toInt < 1000000) (ht : ∀ k, t (ix2 0 k) = 0) :
    large t a (ix2 r k) = t (ix2 (rowOf 999999 (a (ix1 r))) k) := by
  have hg : Host.gather gather_S1000000x32_S16384x1_S16384x32_1_0_n_n_0_1_132 t (starts 1000000#32 a) (ix2 r k) = t (ix2 (rowOf 999999 (a (ix1 r))) k) := by
    rw [gather_ref_large, starts_at _ _ _ h0]
  unfold large
  rw [kept_at, hg]
  · exact within_at _ _ _ (by rw [starts_at _ _ _ h0]; exact h0) (by rw [starts_at _ _ _ h0]; exact Int.le_of_lt_add_one h1)
  · intro h; rw [hg, h, rowOf_zero]; exact ht k

theorem scaled_at (x : FVec Ideal S16384x128 .f32) (g t : FVec Ideal S128 .f32) (r : Fin 16384) (c : Fin 128) :
    scaled x g t (ix2 r c) = normed (fun c => x (ix2 r c)) (fun c => g (ix1 c)) (fun c => t (ix1 c)) c := by
  have hm : means (mulf (centred x) (centred x)) (ix2 r 0) + Ideal.ofBits .f32 0x3727C5AC#32 = spread fun c => x (ix2 r c) := by
    rw [means_at]
    have : (fun c => mulf (centred x) (centred x) (ix2 r c)) = fun c => (x (ix2 r c) - mean fun c => x (ix2 r c)) * (x (ix2 r c) - mean fun c => x (ix2 r c)) := by
      funext c
      rw [← centred_at]; rfl
    rw [this]
    rfl
  pointwise [scaled]
  rw [hm, div_sqrt _ _ (spread_pos _), centred_at]
  rfl

/-- The reference's result, from its arguments. -/
theorem reference_at (a0 a1 a2 a3 : IVec S16384 32) (t4 : FVec Ideal S100000x32 .f32) (t5 : FVec Ideal S1000000x32 .f32)
    (t6 : FVec Ideal S100000x32 .f32) (t7 : FVec Ideal S1000000x32 .f32) (W : FVec Ideal S128x128 .f32) (b g t : FVec Ideal S128 .f32)
    (h0 : ∀ r : Fin 16384, 0 ≤ (a0 (ix1 r)).toInt ∧ (a0 (ix1 r)).toInt < 100000)
    (h1 : ∀ r : Fin 16384, 0 ≤ (a1 (ix1 r)).toInt ∧ (a1 (ix1 r)).toInt < 1000000)
    (h2 : ∀ r : Fin 16384, 0 ≤ (a2 (ix1 r)).toInt ∧ (a2 (ix1 r)).toInt < 100000)
    (h3 : ∀ r : Fin 16384, 0 ≤ (a3 (ix1 r)).toInt ∧ (a3 (ix1 r)).toInt < 1000000)
    (z4 : ∀ k, t4 (ix2 0 k) = 0) (z5 : ∀ k, t5 (ix2 0 k) = 0) (z6 : ∀ k, t6 (ix2 0 k) = 0) (z7 : ∀ k, t7 (ix2 0 k) = 0)
    (r : Fin 16384) (l : Fin 128) :
    scaled (layer (small t4 a0) (large t5 a1) (small t6 a2) (large t7 a3) W b) g t (ix2 r l) = result a0 a1 a2 a3 t4 t5 t6 t7 W b g t r l := by
  rw [scaled_at]
  unfold result
  exact congrArg (fun x => normed x (fun c => g (ix1 c)) (fun c => t (ix1 c)) l) (funext fun c =>
    layer_at _ _ _ _ W b r (embedded a0 a1 a2 a3 t4 t5 t6 t7 r) (fun k => small_at t4 a0 r k (h0 r).1 (h0 r).2 z4)
    (fun k => large_at t5 a1 r k (h1 r).1 (h1 r).2 z5) (fun k => small_at t6 a2 r k (h2 r).1 (h2 r).2 z6)
    (fun k => large_at t7 a3 r k (h3 r).1 (h3 r).2 z7) c)

end Cert.KProof.Ref
end
-- ==== Proof.Pre.lean ====
/-
  What the precondition says: the indices lie in their tables, and each table's row zero is zero.
-/
module

public import proofs.«01_k».proof.Pre_in_range_padded
public import proofs.«01_k».proof.Proof.Spec
public import Idealize.ShloMosaic.Lib.Pointwise

@[expose] public section

noncomputable section

namespace Cert.KProof.Pre

open Cert.Pre_in_range_padded
open Idealize.ShloMosaic

variable [Facts]

theorem and_ones {a b : BitVec 1} (h : IntOp.andi a b = 1#1) : a = 1#1 ∧ b = 1#1 := by
  revert a b; decide

variable (a0 a1 a2 a3 : IVec S16384 32) (t4 : FVec Ideal S100000x32 .f32) (t5 : FVec Ideal S1000000x32 .f32)
    (t6 : FVec Ideal S100000x32 .f32) (t7 : FVec Ideal S1000000x32 .f32) (W : FVec Ideal S128x128 .f32) (b g t : FVec Ideal S128 .f32)

/-- The indices lie in their tables. -/
theorem indices (h : (fn (F := Ideal) a0 a1 a2 a3 t4 t5 t6 t7 W b g t).1 = fun _ => 1#1) (r : Fin 16384) :
    (0 ≤ (a0 (ix1 r)).toInt ∧ (a0 (ix1 r)).toInt < 100000) ∧ (0 ≤ (a1 (ix1 r)).toInt ∧ (a1 (ix1 r)).toInt < 1000000)
      ∧ (0 ≤ (a2 (ix1 r)).toInt ∧ (a2 (ix1 r)).toInt < 100000) ∧ (0 ≤ (a3 (ix1 r)).toInt ∧ (a3 (ix1 r)).toInt < 1000000) := by
  have h := congrFun h (ix1 r)
  unfold fn fn_part1 fn_part2 at h
  pointwise at h
  obtain ⟨h, u3⟩ := and_ones h
  obtain ⟨h, l3⟩ := and_ones h
  obtain ⟨h, u2⟩ := and_ones h
  obtain ⟨h, l2⟩ := and_ones h
  obtain ⟨h, u1⟩ := and_ones h
  obtain ⟨h, l1⟩ := and_ones h
  obtain ⟨l0, u0⟩ := and_ones h
  exact ⟨⟨IntOp.cmpi_sge.mp l0, IntOp.cmpi_slt.mp u0⟩, ⟨IntOp.cmpi_sge.mp l1, IntOp.cmpi_slt.mp u1⟩,
    ⟨IntOp.cmpi_sge.mp l2, IntOp.cmpi_slt.mp u2⟩, ⟨IntOp.cmpi_sge.mp l3, IntOp.cmpi_slt.mp u3⟩⟩

theorem of_ones {p : Prop} [Decidable p] (h : BitVec.ofBool (decide p) = 1#1) : p := by
  by_contra hp
  rw [decide_eq_false hp] at h
  exact absurd h (by decide)

/-- Each table's row zero is zero. -/
theorem rows (h : (fn (F := Ideal) a0 a1 a2 a3 t4 t5 t6 t7 W b g t).2 = fun _ => 1#1) (k : Fin 32) :
    t4 (ix2 0 k) = 0 ∧ t5 (ix2 0 k) = 0 ∧ t6 (ix2 0 k) = 0 ∧ t7 (ix2 0 k) = 0 := by
  have h := congrFun h (ix2 0 k)
  unfold fn fn_part1 fn_part2 at h
  pointwise at h
  obtain ⟨h, z7⟩ := and_ones h
  obtain ⟨h, z6⟩ := and_ones h
  obtain ⟨z4, z5⟩ := and_ones h
  exact ⟨of_ones z4, of_ones z5, of_ones z6, of_ones z7⟩

end Cert.KProof.Pre
end
-- ==== Proof.Value.lean ====
/-
  The value claim: under the precondition the idealized kernel and the idealized reference end with the same result.
-/
module

public import proofs.«01_k».proof.Defs
public import proofs.«01_k».proof.Proof.Host
public import proofs.«01_k».proof.Proof.Reference
public import proofs.«01_k».proof.Proof.Pre

@[expose] public section

noncomputable section

namespace Cert.KProof

open Cert.KernelIdeal Cert.KernelIdeal.Gen
open Idealize.ShloMosaic Idealize.ShloMosaic.TcCoe
open Idealize.SL.Sem

/-- The common result, from the kernel's memory. -/
def common (m : (ℓ : Loc nD τ sig) → Buf (Elt Ideal) ℓ) (c : Dev nD) : FVec Ideal S16384x128 .f32 := fun i =>
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1)

theorem ix2_eta {n k : Nat} (i : (⟨2, ![n, k]⟩ : Shape).Idx) : i = ix2 (i 0) (i 1) := by
  funext a; fin_cases a <;> rfl

/-- Under the precondition the two programs compute the same. -/
theorem algebraic [hP : Cert.Pre_in_range_padded.Facts] :
    Cert.algebraic_KernelIdeal_ReferenceIdeal_pre_in_range_padded (hKernelIdeal := Cert.KernelIdeal.Gen.facts)
      (hReferenceIdeal := Cert.ReferenceIdeal.Gen.facts) (hPre_in_range_padded := hP) := by
  intro m g m' g' hpre hargs
  have hi := fun c r => Pre.indices _ _ _ _ _ _ _ _ _ _ _ _ (hpre c).1 r
  have hz := fun c k => Pre.rows _ _ _ _ _ _ _ _ _ _ _ _ (hpre c).2 k
  refine ⟨fun c => common m c, ?_, ?_⟩
  · refine (θ_run _ _ _).mono (fun r hr c => ?_) (run_outs (F := Ideal) m g)
    obtain ⟨outs, hL, h⟩ := hr.1 c
    refine ⟨(h _ (uc main_v37 (by decide))).trans ?_,
          (h _ (uc main_arg0 (by decide))).trans (V6_main_arg0 m outs c),
          (h _ (uc main_arg1 (by decide))).trans (V6_main_arg1 m outs c),
          (h _ (uc main_arg2 (by decide))).trans (V6_main_arg2 m outs c),
          (h _ (uc main_arg3 (by decide))).trans (V6_main_arg3 m outs c),
          (h _ (uc main_arg4 (by decide))).trans (V6_main_arg4 m outs c),
          (h _ (uc main_arg5 (by decide))).trans (V6_main_arg5 m outs c),
          (h _ (uc main_arg6 (by decide))).trans (V6_main_arg6 m outs c),
          (h _ (uc main_arg7 (by decide))).trans (V6_main_arg7 m outs c),
          (h _ (uc main_arg8 (by decide))).trans (V6_main_arg8 m outs c),
          (h _ (uc main_arg9 (by decide))).trans (V6_main_arg9 m outs c),
          (h _ (uc main_arg10 (by decide))).trans (V6_main_arg10 m outs c),
          (h _ (uc main_arg11 (by decide))).trans (V6_main_arg11 m outs c)⟩
    funext i
    exact (congrArg (V6 m outs c main_v37 : FVec Ideal S16384x128 .f32) (ix2_eta i)).trans
      (kernel_at m outs c hL (fun r => (hi c r).1.1) (fun r => (hi c r).2.1.1) (fun r => (hi c r).2.2.1.1) (fun r => (hi c r).2.2.2.1) (i 0) (i 1))
  · refine (θ_run _ _ _).mono (fun r h c => ⟨(h c).1.trans ?_, (h c).2⟩) (Cert.ReferenceIdeal.Value.run (F := Ideal) m' g')
    rw [Ref.stages]
    obtain ⟨e0, e1, e2, e3, e4, e5, e6, e7, e8, e9, e10, e11⟩ := hargs c
    rw [e0, e1, e2, e3, e4, e5, e6, e7, e8, e9, e10, e11]
    funext i
    refine (congrArg (Ref.scaled _ _ _) (ix2_eta i)).trans ?_
    exact Ref.reference_at _ _ _ _ _ _ _ _ _ _ _ _ (fun r => (hi c r).1) (fun r => (hi c r).2.1) (fun r => (hi c r).2.2.1) (fun r => (hi c r).2.2.2)
      (fun k => (hz c k).1) (fun k => (hz c k).2.1) (fun k => (hz c k).2.2.1) (fun k => (hz c k).2.2.2) (i 0) (i 1)

end Cert.KProof
end
-- ==== Proof.lean ====
/- The claims about the kernel, its ideal form and the reference, put together from the modules beside this one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range_padded
public import proofs.«01_k».proof.Proof.Twin
public import proofs.«01_k».proof.Proof.Value

@[expose] public section

noncomputable section

namespace Cert.Proof

open Idealize.ShloMosaic Idealize.SL.Sem

/-- The idealized reference leaves its arguments unchanged and its semaphores at zero. -/
theorem frameR : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run (F := Ideal) m g)

theorem claim : Cert.Claim := ⟨Cert.Kernel.Gen.facts, Cert.KernelIdeal.Gen.facts, Cert.ReferenceIdeal.Gen.facts, Cert.Pre_in_range_padded.Gen.facts,
  fun m g _ => Cert.KProof.frameK Bits m g, fun m g _ => Cert.KProof.frameI Ideal m g, fun m g _ => Cert.KProof.frameI Ideal m g,
  frameR, fun m g _ => frameR m g trivial, trivial, Cert.KProof.algebraic⟩

end Cert.Proof

end
